-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_MixingIdeal (m : (ℓ : Loc Cert.MixingIdeal.nD Cert.MixingIdeal.τ Cert.MixingIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7)
      ∧ r.2.mem ((c.tc : Thread Cert.Projection.nD Cert.Projection.τ).loc Cert.Projection.main_arg8) = m ((c.tc : Thread Cert.Projection.nD Cert.Projection.τ).loc Cert.Projection.main_arg8)
      ∧ r.2.mem ((c.tc : Thread Cert.Projection.nD Cert.Projection.τ).loc Cert.Projection.main_arg9) = m ((c.tc : Thread Cert.Projection.nD Cert.Projection.τ).loc Cert.Projection.main_arg9))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
      ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
      ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Projection_ProjectionIdeal : Prop :=
  True

def algebraic_ProjectionIdeal_MixingIdeal [hProjectionIdeal : Cert.ProjectionIdeal.Facts] [hMixingIdeal : Cert.MixingIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.MixingIdeal.nD Cert.MixingIdeal.τ Cert.MixingIdeal.sig) → Buf (Elt Ideal) ℓ) (g' : Dev Cert.MixingIdeal.nD → PrngReg), Pre_ProjectionIdeal m →
    (∀ c : Dev Cert.ProjectionIdeal.nD,
      m' ((c.tc : Thread Cert.MixingIdeal.nD Cert.MixingIdeal.τ).loc Cert.MixingIdeal.main_arg0) = m ((c.tc : Thread Cert.ProjectionIdeal.nD Cert.ProjectionIdeal.τ).loc Cert.ProjectionIdeal.main_arg0)
      ∧ m' ((c.tc : Thread Cert.MixingIdeal.nD Cert.MixingIdeal.τ).loc Cert.MixingIdeal.main_arg1) = m ((c.tc : Thread Cert.ProjectionIdeal.nD Cert.ProjectionIdeal.τ).loc Cert.ProjectionIdeal.main_arg1)
      ∧ m' ((c.tc : Thread Cert.MixingIdeal.nD Cert.MixingIdeal.τ).loc Cert.MixingIdeal.main_arg2) = m ((c.tc : Thread Cert.ProjectionIdeal.nD Cert.ProjectionIdeal.τ).loc Cert.ProjectionIdeal.main_arg2)
      ∧ m' ((c.tc : Thread Cert.MixingIdeal.nD Cert.MixingIdeal.τ).loc Cert.MixingIdeal.main_arg3) = m ((c.tc : Thread Cert.ProjectionIdeal.nD Cert.ProjectionIdeal.τ).loc Cert.ProjectionIdeal.main_arg3)
      ∧ m' ((c.tc : Thread Cert.MixingIdeal.nD Cert.MixingIdeal.τ).loc Cert.MixingIdeal.main_arg4) = m ((c.tc : Thread Cert.ProjectionIdeal.nD Cert.ProjectionIdeal.τ).loc Cert.ProjectionIdeal.main_arg4)
      ∧ m' ((c.tc : Thread Cert.MixingIdeal.nD Cert.MixingIdeal.τ).loc Cert.MixingIdeal.main_arg5) = m ((c.tc : Thread Cert.ProjectionIdeal.nD Cert.ProjectionIdeal.τ).loc Cert.ProjectionIdeal.main_arg5)
      ∧ m' ((c.tc : Thread Cert.MixingIdeal.nD Cert.MixingIdeal.τ).loc Cert.MixingIdeal.main_arg6) = m ((c.tc : Thread Cert.ProjectionIdeal.nD Cert.ProjectionIdeal.τ).loc Cert.ProjectionIdeal.main_arg6)
      ∧ m' ((c.tc : Thread Cert.MixingIdeal.nD Cert.MixingIdeal.τ).loc Cert.MixingIdeal.main_arg7) = m ((c.tc : Thread Cert.ProjectionIdeal.nD Cert.ProjectionIdeal.τ).loc Cert.ProjectionIdeal.main_arg7)
      ∧ m' ((c.tc : Thread Cert.MixingIdeal.nD Cert.MixingIdeal.τ).loc Cert.MixingIdeal.main_arg8) = m ((c.tc : Thread Cert.ProjectionIdeal.nD Cert.ProjectionIdeal.τ).loc Cert.ProjectionIdeal.main_arg8)
      ∧ m' ((c.tc : Thread Cert.MixingIdeal.nD Cert.MixingIdeal.τ).loc Cert.MixingIdeal.main_arg9) = m ((c.tc : Thread Cert.ProjectionIdeal.nD Cert.ProjectionIdeal.τ).loc Cert.ProjectionIdeal.main_arg9)) →
    ∃ (v0 : (c : Dev Cert.ProjectionIdeal.nD) → Buf (Elt Ideal) ((c.tc : Thread Cert.ProjectionIdeal.nD Cert.ProjectionIdeal.τ).loc Cert.ProjectionIdeal.main_v4_0)) (v1 : (c : Dev Cert.ProjectionIdeal.nD) → Buf (Elt Ideal) ((c.tc : Thread Cert.ProjectionIdeal.nD Cert.ProjectionIdeal.τ).loc Cert.ProjectionIdeal.main_v4_1)) (v2 : (c : Dev Cert.ProjectionIdeal.nD) → Buf (Elt Ideal) ((c.tc : Thread Cert.ProjectionIdeal.nD Cert.ProjectionIdeal.τ).loc Cert.ProjectionIdeal.main_v4_2)) (v3 : (c : Dev Cert.ProjectionIdeal.nD) → Buf (Elt Ideal) ((c.tc : Thread Cert.ProjectionIdeal.nD Cert.ProjectionIdeal.τ).loc Cert.ProjectionIdeal.main_v4_3)) (v4 : (c : Dev Cert.ProjectionIdeal.nD) → Buf (Elt Ideal) ((c.tc : Thread Cert.ProjectionIdeal.nD Cert.ProjectionIdeal.τ).loc Cert.ProjectionIdeal.main_v4_4)) (v5 : (c : Dev Cert.ProjectionIdeal.nD) → Buf (Elt Ideal) ((c.tc : Thread Cert.ProjectionIdeal.nD Cert.ProjectionIdeal.τ).loc Cert.ProjectionIdeal.main_v4_5)) (v6 : (c : Dev Cert.ProjectionIdeal.nD) → Buf (Elt Ideal) ((c.tc : Thread Cert.ProjectionIdeal.nD Cert.ProjectionIdeal.τ).loc Cert.ProjectionIdeal.main_v4_6)) (v7 : (c : Dev Cert.ProjectionIdeal.nD) → Buf (Elt Ideal) ((c.tc : Thread Cert.ProjectionIdeal.nD Cert.ProjectionIdeal.τ).loc Cert.ProjectionIdeal.main_v4_7)) (v8 : (c : Dev Cert.ProjectionIdeal.nD) → Buf (Elt Ideal) ((c.tc : Thread Cert.ProjectionIdeal.nD Cert.ProjectionIdeal.τ).loc Cert.ProjectionIdeal.main_v4_8)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v4_0) = v0 c
          ∧ r.2.mem ((c.tc : Thread Cert.ProjectionIdeal.nD Cert.ProjectionIdeal.τ).loc Cert.ProjectionIdeal.main_v4_1) = v1 c
          ∧ r.2.mem ((c.tc : Thread Cert.ProjectionIdeal.nD Cert.ProjectionIdeal.τ).loc Cert.ProjectionIdeal.main_v4_2) = v2 c
          ∧ r.2.mem ((c.tc : Thread Cert.ProjectionIdeal.nD Cert.ProjectionIdeal.τ).loc Cert.ProjectionIdeal.main_v4_3) = v3 c
          ∧ r.2.mem ((c.tc : Thread Cert.ProjectionIdeal.nD Cert.ProjectionIdeal.τ).loc Cert.ProjectionIdeal.main_v4_4) = v4 c
          ∧ r.2.mem ((c.tc : Thread Cert.ProjectionIdeal.nD Cert.ProjectionIdeal.τ).loc Cert.ProjectionIdeal.main_v4_5) = v5 c
          ∧ r.2.mem ((c.tc : Thread Cert.ProjectionIdeal.nD Cert.ProjectionIdeal.τ).loc Cert.ProjectionIdeal.main_v4_6) = v6 c
          ∧ r.2.mem ((c.tc : Thread Cert.ProjectionIdeal.nD Cert.ProjectionIdeal.τ).loc Cert.ProjectionIdeal.main_v4_7) = v7 c
          ∧ r.2.mem ((c.tc : Thread Cert.ProjectionIdeal.nD Cert.ProjectionIdeal.τ).loc Cert.ProjectionIdeal.main_v4_8) = v8 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
          ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
          ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9))
      ∧ θ_run (Cert.MixingIdeal.defs (F := Ideal)) (onTc (τ := Cert.MixingIdeal.τ) (Cert.MixingIdeal.main (F := Ideal))) ⟨m', fun _ => 0, g'⟩ (fun r => ∀ c : Dev Cert.MixingIdeal.nD,
          r.2.mem ((c.tc : Thread Cert.MixingIdeal.nD Cert.MixingIdeal.τ).loc Cert.MixingIdeal.main_v159) = v0 c
          ∧ r.2.mem ((c.tc : Thread Cert.MixingIdeal.nD Cert.MixingIdeal.τ).loc Cert.MixingIdeal.main_v160) = v1 c
          ∧ r.2.mem ((c.tc : Thread Cert.MixingIdeal.nD Cert.MixingIdeal.τ).loc Cert.MixingIdeal.main_v161) = v2 c
          ∧ r.2.mem ((c.tc : Thread Cert.MixingIdeal.nD Cert.MixingIdeal.τ).loc Cert.MixingIdeal.main_v162) = v3 c
          ∧ r.2.mem ((c.tc : Thread Cert.MixingIdeal.nD Cert.MixingIdeal.τ).loc Cert.MixingIdeal.main_v163) = v4 c
          ∧ r.2.mem ((c.tc : Thread Cert.MixingIdeal.nD Cert.MixingIdeal.τ).loc Cert.MixingIdeal.main_v164) = v5 c
          ∧ r.2.mem ((c.tc : Thread Cert.MixingIdeal.nD Cert.MixingIdeal.τ).loc Cert.MixingIdeal.main_v165) = v6 c
          ∧ r.2.mem ((c.tc : Thread Cert.MixingIdeal.nD Cert.MixingIdeal.τ).loc Cert.MixingIdeal.main_v166) = v7 c
          ∧ r.2.mem ((c.tc : Thread Cert.MixingIdeal.nD Cert.MixingIdeal.τ).loc Cert.MixingIdeal.main_v167) = v8 c
          ∧ r.2.mem ((c.tc : Thread Cert.MixingIdeal.nD Cert.MixingIdeal.τ).loc Cert.MixingIdeal.main_arg0) = m' ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m' ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m' ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m' ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m' ((c.tc : Thread Cert.MixingIdeal.nD Cert.MixingIdeal.τ).loc Cert.MixingIdeal.main_arg4)
          ∧ r.2.mem ((c.tc : Thread Cert.MixingIdeal.nD Cert.MixingIdeal.τ).loc Cert.MixingIdeal.main_arg5) = m' ((c.tc : Thread Cert.MixingIdeal.nD Cert.MixingIdeal.τ).loc Cert.MixingIdeal.main_arg5)
          ∧ r.2.mem ((c.tc : Thread Cert.MixingIdeal.nD Cert.MixingIdeal.τ).loc Cert.MixingIdeal.main_arg6) = m' ((c.tc : Thread Cert.MixingIdeal.nD Cert.MixingIdeal.τ).loc Cert.MixingIdeal.main_arg6)
          ∧ r.2.mem ((c.tc : Thread Cert.MixingIdeal.nD Cert.MixingIdeal.τ).loc Cert.MixingIdeal.main_arg7) = m' ((c.tc : Thread Cert.MixingIdeal.nD Cert.MixingIdeal.τ).loc Cert.MixingIdeal.main_arg7)
          ∧ r.2.mem ((c.tc : Thread Cert.MixingIdeal.nD Cert.MixingIdeal.τ).loc Cert.MixingIdeal.main_arg8) = m' ((c.tc : Thread Cert.MixingIdeal.nD Cert.MixingIdeal.τ).loc Cert.MixingIdeal.main_arg8)
          ∧ r.2.mem ((c.tc : Thread Cert.MixingIdeal.nD Cert.MixingIdeal.τ).loc Cert.MixingIdeal.main_arg9) = m' ((c.tc : Thread Cert.MixingIdeal.nD Cert.MixingIdeal.τ).loc Cert.MixingIdeal.main_arg9))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hMixingIdeal : Cert.MixingIdeal.Facts),
    quiescent_Kernel (hKernel := hKernel)
    ∧ quiescent_KernelIdeal (hKernelIdeal := hKernelIdeal)
    ∧ quiescent_ReferenceIdeal (hReferenceIdeal := hReferenceIdeal)
    ∧ quiescent_Projection (hProjection := hProjection)
    ∧ quiescent_ProjectionIdeal (hProjectionIdeal := hProjectionIdeal)
    ∧ quiescent_MixingIdeal (hMixingIdeal := hMixingIdeal)
    ∧ preserves_Kernel_KernelIdeal
    ∧ algebraic_KernelIdeal_ReferenceIdeal (hKernelIdeal := hKernelIdeal) (hReferenceIdeal := hReferenceIdeal)
    ∧ preserves_Projection_ProjectionIdeal
    ∧ algebraic_ProjectionIdeal_MixingIdeal (hProjectionIdeal := hProjectionIdeal) (hMixingIdeal := hMixingIdeal)
-- ==== Kernel.lean ====
abbrev S8x4096x1024 : Shape := ⟨3, ![8, 4096, 1024]⟩
abbrev S8x2048x512 : Shape := ⟨3, ![8, 2048, 512]⟩
abbrev S8x4096x256 : Shape := ⟨3, ![8, 4096, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x256x512 : Shape := ⟨3, ![1, 256, 512]⟩
abbrev S1x512x256 : Shape := ⟨3, ![1, 512, 256]⟩
abbrev S512x2816 : Shape := ⟨2, ![512, 2816]⟩
abbrev S8x5632 : Shape := ⟨2, ![8, 5632]⟩
abbrev S4x2x792x128 : Shape := ⟨4, ![4, 2, 792, 128]⟩
abbrev S1x256x1024 : Shape := ⟨3, ![1, 256, 1024]⟩
abbrev S1x128x512 : Shape := ⟨3, ![1, 128, 512]⟩
abbrev S128x512 : Shape := ⟨2, ![128, 512]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x128 : Shape := ⟨2, ![8, 128]⟩
abbrev S1x1x8x128 : Shape := ⟨4, ![1, 1, 8, 128]⟩
abbrev S256x128 : Shape := ⟨2, ![256, 128]⟩
abbrev S1x1x256x128 : Shape := ⟨4, ![1, 1, 256, 128]⟩
abbrev S8x256 : Shape := ⟨2, ![8, 256]⟩
abbrev S1x256 : Shape := ⟨2, ![1, 256]⟩
abbrev S256x2816 : Shape := ⟨2, ![256, 2816]⟩
abbrev S1x256x256 : Shape := ⟨3, ![1, 256, 256]⟩

abbrev nBuf : Space → Nat
  | .hbm => 19
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x2048x512, .i32⟩
  | .hbm, ⟨2, _⟩ => ⟨S8x2048x512, .i32⟩
  | .hbm, ⟨3, _⟩ => ⟨S8x4096x256, .f32⟩
  | .hbm, ⟨4, _⟩ => ⟨S1024x1024, .bf16⟩
  | .hbm, ⟨5, _⟩ => ⟨S1024, .f32⟩
  | .hbm, ⟨6, _⟩ => ⟨S1024x5632, .bf16⟩
  | .hbm, ⟨7, _⟩ => ⟨S3x5632, .f32⟩
  | .hbm, ⟨8, _⟩ => ⟨S5632, .f32⟩
  | .hbm, ⟨9, _⟩ => ⟨S2816x1024, .bf16⟩
  | .hbm, ⟨10, _⟩ => ⟨S1024, .f32⟩
  | .hbm, ⟨11, _⟩ => ⟨S1024x1024, .bf16⟩
  | .hbm, ⟨12, _⟩ => ⟨S256x1024, .bf16⟩
  | .hbm, ⟨13, _⟩ => ⟨S1024, .f32⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S1x1024, .f32⟩
  | .hbm, ⟨18, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x512, .i32⟩
  | .local _ .vmem, ⟨3, _⟩ => ⟨S1x256x512, .i32⟩
  | .local _ .vmem, ⟨4, _⟩ => ⟨S1x256x512, .i32⟩
  | .local _ .vmem, ⟨5, _⟩ => ⟨S1x256x512, .i32⟩
  | .local _ .vmem, ⟨6, _⟩ => ⟨S1x512x256, .f32⟩
  | .local _ .vmem, ⟨7, _⟩ => ⟨S1x512x256, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x2816, .bf16⟩
  | .local _ .vmem, ⟨21, _⟩ => ⟨S8x5632, .f32⟩
  | .local _ .vmem, ⟨22, _⟩ => ⟨S4x2x792x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x4096x1024 : Shape := ⟨3, ![8, 4096, 1024]⟩
abbrev S8x2048x512 : Shape := ⟨3, ![8, 2048, 512]⟩
abbrev S8x4096x256 : Shape := ⟨3, ![8, 4096, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S8x2048x512x2 : Shape := ⟨4, ![8, 2048, 512, 2]⟩
abbrev S8x2048x2x512 : Shape := ⟨4, ![8, 2048, 2, 512]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S1x5632 : Shape := ⟨2, ![1, 5632]⟩
abbrev S8x4098x5632 : Shape := ⟨3, ![8, 4098, 5632]⟩
abbrev S1x1x5632 : Shape := ⟨3, ![1, 1, 5632]⟩
abbrev S8x4097x5632 : Shape := ⟨3, ![8, 4097, 5632]⟩
abbrev S8x4096x2816 : Shape := ⟨3, ![8, 4096, 2816]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S8x2048x512, .i32⟩
  | 2 => ⟨S8x2048x512, .i32⟩
  | 3 => ⟨S8x4096x256, .f32⟩
  | 4 => ⟨S1024x1024, .bf16⟩
  | 5 => ⟨S1024, .f32⟩
  | 6 => ⟨S1024x5632, .bf16⟩
  | 7 => ⟨S3x5632, .f32⟩
  | 8 => ⟨S5632, .f32⟩
  | 9 => ⟨S2816x1024, .bf16⟩
  | 10 => ⟨S1024, .f32⟩
  | 11 => ⟨S1024x1024, .bf16⟩
  | 12 => ⟨S256x1024, .bf16⟩
  | 13 => ⟨S1024, .f32⟩
  | 14 => ⟨S8x2048x512x2, .bf16⟩
  | 15 => ⟨S8x2048x2x512, .bf16⟩
  | 16 => ⟨S8x4096x512, .bf16⟩
  | 17 => ⟨S8x4096x512, .f32⟩
  | 18 => ⟨S8x2048x512x2, .bf16⟩
  | 19 => ⟨S8x2048x2x512, .bf16⟩
  | 20 => ⟨S8x4096x512, .bf16⟩
  | 21 => ⟨S8x4096x512, .f32⟩
  | 22 => ⟨S8x4096x1024, .f32⟩
  | 23 => ⟨S1024x1024, .f32⟩
  | 24 => ⟨S8x4096x1024, .f32⟩
  | 25 => ⟨S8x4096x1024, .f32⟩
  | 26 => ⟨S8x4096x1024, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S_, .f32⟩
  | 34 => ⟨S8x4096x1, .f32⟩
  | 35 => ⟨S8x4096x1, .f32⟩
  | 36 => ⟨S8x4096x1, .f32⟩
  | 37 => ⟨S8x4096x1024, .f32⟩
  | 38 => ⟨S8x4096x1024, .f32⟩
  | 39 => ⟨S1x1x1024, .f32⟩
  | 40 => ⟨S8x4096x1024, .f32⟩
  | 41 => ⟨S8x4096x1024, .f32⟩
  | 42 => ⟨S1024x5632, .f32⟩
  | 43 => ⟨S8x4096x5632, .f32⟩
  | 44 => ⟨S1x5632, .f32⟩
  | 45 => ⟨S5632, .f32⟩
  | 46 => ⟨S_, .i32⟩
  | 47 => ⟨S_, .f32⟩
  | 48 => ⟨S8x4098x5632, .f32⟩
  | 49 => ⟨S8x4096x5632, .f32⟩
  | 50 => ⟨S1x1x5632, .f32⟩
  | 51 => ⟨S8x4096x5632, .f32⟩
  | 52 => ⟨S8x4096x5632, .f32⟩
  | 53 => ⟨S1x1x5632, .f32⟩
  | 54 => ⟨S8x4096x5632, .f32⟩
  | 55 => ⟨S8x4096x5632, .f32⟩
  | 56 => ⟨S1x5632, .f32⟩
  | 57 => ⟨S5632, .f32⟩
  | 58 => ⟨S_, .i32⟩
  | 59 => ⟨S_, .f32⟩
  | 60 => ⟨S8x4097x5632, .f32⟩
  | 61 => ⟨S8x4096x5632, .f32⟩
  | 62 => ⟨S1x1x5632, .f32⟩
  | 63 => ⟨S8x4096x5632, .f32⟩
  | 64 => ⟨S8x4096x5632, .f32⟩
  | 65 => ⟨S8x4096x5632, .f32⟩
  | 66 => ⟨S1x5632, .f32⟩
  | 67 => ⟨S5632, .f32⟩
  | 68 => ⟨S1x1x5632, .f32⟩
  | 69 => ⟨S8x4096x5632, .f32⟩
  | 70 => ⟨S8x4096x5632, .f32⟩
  | 71 => ⟨S8x4096x5632, .f32⟩
  | 72 => ⟨S8x4096x2816, .f32⟩
  | 73 => ⟨S8x4096x2816, .f32⟩
  | 74 => ⟨S8x4096x2816, .f32⟩
  | 75 => ⟨S8x4096x2816, .f32⟩
  | 76 => ⟨S_, .f32⟩
  | 77 => ⟨S8x4096x2816, .f32⟩
  | 78 => ⟨S8x4096x2816, .f32⟩
  | 79 => ⟨S_, .f32⟩
  | 80 => ⟨S8x4096x2816, .f32⟩
  | 81 => ⟨S8x4096x2816, .f32⟩
  | 82 => ⟨S8x4096x2816, .f32⟩
  | 83 => ⟨S8x4096x2816, .f32⟩
  | 84 => ⟨S2816x1024, .f32⟩
  | 85 => ⟨S8x4096x1024, .f32⟩
  | 86 => ⟨S8x4096x1024, .f32⟩
  | 87 => ⟨S8x4096x1024, .f32⟩
  | 88 => ⟨S_, .f32⟩
  | 89 => ⟨S8x4096, .f32⟩
  | 90 => ⟨S8x4096x1, .f32⟩
  | 91 => ⟨S_, .f32⟩
  | 92 => ⟨S8x4096x1, .f32⟩
  | 93 => ⟨S8x4096x1, .f32⟩
  | 94 => ⟨S_, .f32⟩
  | 95 => ⟨S8x4096x1, .f32⟩
  | 96 => ⟨S8x4096x1, .f32⟩
  | 97 => ⟨S8x4096x1, .f32⟩
  | 98 => ⟨S8x4096x1024, .f32⟩
  | 99 => ⟨S8x4096x1024, .f32⟩
  | 100 => ⟨S1x1x1024, .f32⟩
  | 101 => ⟨S8x4096x1024, .f32⟩
  | 102 => ⟨S8x4096x1024, .f32⟩
  | 103 => ⟨S1024x1024, .f32⟩
  | 104 => ⟨S8x4096x1024, .f32⟩
  | 105 => ⟨S8x4096x1024, .f32⟩
  | 106 => ⟨S8x4096x1024, .f32⟩
  | 107 => ⟨S_, .f32⟩
  | 108 => ⟨S8x4096x1024, .f32⟩
  | 109 => ⟨S8x4096x1024, .f32⟩
  | 110 => ⟨S_, .f32⟩
  | 111 => ⟨S8x4096x1024, .f32⟩
  | 112 => ⟨S8x4096x1024, .f32⟩
  | 113 => ⟨S256x1024, .f32⟩
  | 114 => ⟨S8x4096x1024, .f32⟩
  | 115 => ⟨S8x4096x1024, .f32⟩
  | 116 => ⟨S8x4096x1024, .f32⟩
  | 117 => ⟨S8x4096x1024, .f32⟩
  | 118 => ⟨S_, .f32⟩
  | 119 => ⟨S8x4096, .f32⟩
  | 120 => ⟨S8x4096x1, .f32⟩
  | 121 => ⟨S_, .f32⟩
  | 122 => ⟨S8x4096x1, .f32⟩
  | 123 => ⟨S8x4096x1, .f32⟩
  | 124 => ⟨S_, .f32⟩
  | 125 => ⟨S8x4096x1, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1x1024, .f32⟩
  | 3 => ⟨S8x4096x1024, .f32⟩
  | 4 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_2 : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_3 : Ref sig .tc := ⟨.hbm, 88, rfl⟩
abbrev main_v59 : Ref sig .tc := ⟨.hbm, 89, rfl⟩
abbrev main_v60 : Ref sig .tc := ⟨.hbm, 90, rfl⟩
abbrev main_cst_4 : Ref sig .tc := ⟨.hbm, 91, rfl⟩
abbrev main_v61 : Ref sig .tc := ⟨.hbm, 92, rfl⟩
abbrev main_v62 : Ref sig .tc := ⟨.hbm, 93, rfl⟩
abbrev main_cst_5 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_v76 : Ref sig .tc := ⟨.hbm, 109, rfl⟩
abbrev main_cst_7 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_8 : Ref sig .tc := ⟨.hbm, 118, rfl⟩
abbrev main_v84 : Ref sig .tc := ⟨.hbm, 119, rfl⟩
abbrev main_v85 : Ref sig .tc := ⟨.hbm, 120, rfl⟩
abbrev main_cst_9 : Ref sig .tc := ⟨.hbm, 121, rfl⟩
abbrev main_v86 : Ref sig .tc := ⟨.hbm, 122, rfl⟩
abbrev main_v87 : Ref sig .tc := ⟨.hbm, 123, rfl⟩
abbrev main_cst_10 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Projection.lean ====
abbrev S8x4096x1024 : Shape := ⟨3, ![8, 4096, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S1x512 : Shape := ⟨2, ![1, 512]⟩
abbrev S8x4096x1536 : Shape := ⟨3, ![8, 4096, 1536]⟩
abbrev S8x4x1024x1536 : Shape := ⟨4, ![8, 4, 1024, 1536]⟩
abbrev S8x16x256x1536 : Shape := ⟨4, ![8, 16, 256, 1536]⟩
abbrev S8x4096x512 : Shape := ⟨3, ![8, 4096, 512]⟩
abbrev S1x1024x1024 : Shape := ⟨3, ![1, 1024, 1024]⟩
abbrev S32x1024 : Shape := ⟨2, ![32, 1024]⟩
abbrev S32x5632 : Shape := ⟨2, ![32, 5632]⟩
abbrev S128x1024 : Shape := ⟨2, ![128, 1024]⟩
abbrev S16x1024 : Shape := ⟨2, ![16, 1024]⟩
abbrev S1x1024x1536 : Shape := ⟨3, ![1, 1024, 1536]⟩
abbrev S1x4x256x1536 : Shape := ⟨4, ![1, 4, 256, 1536]⟩
abbrev S1x16x64x1536 : Shape := ⟨4, ![1, 16, 64, 1536]⟩
abbrev S1x1024x512 : Shape := ⟨3, ![1, 1024, 512]⟩
abbrev S12x1024x128 : Shape := ⟨3, ![12, 1024, 128]⟩
abbrev S16x512 : Shape := ⟨2, ![16, 512]⟩
abbrev S1024x1 : Shape := ⟨2, ![1024, 1]⟩
abbrev S1024x512 : Shape := ⟨2, ![1024, 512]⟩
abbrev S1040x512 : Shape := ⟨2, ![1040, 512]⟩
abbrev S1040x384 : Shape := ⟨2, ![1040, 384]⟩
abbrev S1040x256 : Shape := ⟨2, ![1040, 256]⟩
abbrev S1040x128 : Shape := ⟨2, ![1040, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 23
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S1024x1024, .f32⟩
  | .hbm, ⟨9, _⟩ => ⟨S256x1024, .f32⟩
  | .hbm, ⟨10, _⟩ => ⟨S1x1024, .f32⟩
  | .hbm, ⟨11, _⟩ => ⟨S1024x2048, .bf16⟩
  | .hbm, ⟨12, _⟩ => ⟨S4x128x128, .bf16⟩
  | .hbm, ⟨13, _⟩ => ⟨S1x512, .f32⟩
  | .hbm, ⟨14, _⟩ => ⟨S8x4096x1536, .bf16⟩
  | .hbm, ⟨15, _⟩ => ⟨S8x4x1024x1536, .bf16⟩
  | .hbm, ⟨16, _⟩ => ⟨S8x16x256x1536, .bf16⟩
  | .hbm, ⟨17, _⟩ => ⟨S8x4096x512, .bf16⟩
  | .hbm, ⟨18, _⟩ => ⟨S1024x1024, .bf16⟩
  | .hbm, ⟨19, _⟩ => ⟨S1024x5632, .bf16⟩
  | .hbm, ⟨20, _⟩ => ⟨S2816x1024, .bf16⟩
  | .hbm, ⟨21, _⟩ => ⟨S1024x1024, .bf16⟩
  | .hbm, ⟨22, _⟩ => ⟨S256x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2048, .bf16⟩
  | .local _ .vmem, ⟨4, _⟩ => ⟨S4x128x128, .bf16⟩
  | .local _ .vmem, ⟨5, _⟩ => ⟨S1x512, .f32⟩
  | .local _ .vmem, ⟨6, _⟩ => ⟨S32x1024, .f32⟩
  | .local _ .vmem, ⟨7, _⟩ => ⟨S32x1024, .f32⟩
  | .local _ .vmem, ⟨8, _⟩ => ⟨S32x5632, .f32⟩
  | .local _ .vmem, ⟨9, _⟩ => ⟨S32x5632, .f32⟩
  | .local _ .vmem, ⟨10, _⟩ => ⟨S128x1024, .f32⟩
  | .local _ .vmem, ⟨11, _⟩ => ⟨S128x1024, .f32⟩
  | .local _ .vmem, ⟨12, _⟩ => ⟨S32x1024, .f32⟩
  | .local _ .vmem, ⟨13, _⟩ => ⟨S32x1024, .f32⟩
  | .local _ .vmem, ⟨14, _⟩ => ⟨S16x1024, .f32⟩
  | .local _ .vmem, ⟨15, _⟩ => ⟨S16x1024, .f32⟩
  | .local _ .vmem, ⟨16, _⟩ => ⟨S1x1024x1536, .bf16⟩
  | .local _ .vmem, ⟨17, _⟩ => ⟨S1x1024x1536, .bf16⟩
  | .local _ .vmem, ⟨18, _⟩ => ⟨S1x4x256x1536, .bf16⟩
  | .local _ .vmem, ⟨19, _⟩ => ⟨S1x4x256x1536, .bf16⟩
  | .local _ .vmem, ⟨20, _⟩ => ⟨S1x16x64x1536, .bf16⟩
  | .local _ .vmem, ⟨21, _⟩ => ⟨S1x16x64x1536, .bf16⟩
  | .local _ .vmem, ⟨22, _⟩ => ⟨S1x1024x512, .bf16⟩
  | .local _ .vmem, ⟨23, _⟩ => ⟨S1x1024x512, .bf16⟩
  | .local _ .vmem, ⟨24, _⟩ => ⟨S32x1024, .bf16⟩
  | .local _ .vmem, ⟨25, _⟩ => ⟨S32x1024, .bf16⟩
  | .local _ .vmem, ⟨26, _⟩ => ⟨S32x5632, .bf16⟩
  | .local _ .vmem, ⟨27, _⟩ => ⟨S32x5632, .bf16⟩
  | .local _ .vmem, ⟨28, _⟩ => ⟨S128x1024, .bf16⟩
  | .local _ .vmem, ⟨29, _⟩ => ⟨S128x1024, .bf16⟩
  | .local _ .vmem, ⟨30, _⟩ => ⟨S32x1024, .bf16⟩
  | .local _ .vmem, ⟨31, _⟩ => ⟨S32x1024, .bf16⟩
  | .local _ .vmem, ⟨32, _⟩ => ⟨S16x1024, .bf16⟩
  | .local _ .vmem, ⟨33, _⟩ => ⟨S16x1024, .bf16⟩
  | .local _ .vmem, ⟨34, _⟩ => ⟨S12x1024x128, .f32⟩
  | .local _ .vmem, ⟨35, _⟩ => ⟨S12x1024x128, .f32⟩
  | .local _ .vmem, ⟨36, _⟩ => ⟨S16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x64x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MixingIdeal.lean ====
abbrev S8x4096x1024 : Shape := ⟨3, ![8, 4096, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x512 : Shape := ⟨3, ![8, 4096, 512]⟩
abbrev S8x4096x1536 : Shape := ⟨3, ![8, 4096, 1536]⟩
abbrev S4096 : Shape := ⟨1, ![4096]⟩
abbrev S8x4096x128 : Shape := ⟨3, ![8, 4096, 128]⟩
abbrev S8x4097x128 : Shape := ⟨3, ![8, 4097, 128]⟩
abbrev S1x4096x1 : Shape := ⟨3, ![1, 4096, 1]⟩
abbrev S1x128x128 : Shape := ⟨3, ![1, 128, 128]⟩
abbrev S128x128 : Shape := ⟨2, ![128, 128]⟩
abbrev S8x4098x128 : Shape := ⟨3, ![8, 4098, 128]⟩
abbrev S8x4099x128 : Shape := ⟨3, ![8, 4099, 128]⟩
abbrev S8x4100x128 : Shape := ⟨3, ![8, 4100, 128]⟩
abbrev S8x4101x128 : Shape := ⟨3, ![8, 4101, 128]⟩
abbrev S8x4102x128 : Shape := ⟨3, ![8, 4102, 128]⟩
abbrev S8x4103x128 : Shape := ⟨3, ![8, 4103, 128]⟩
abbrev S8x4104x128 : Shape := ⟨3, ![8, 4104, 128]⟩
abbrev S8x4105x128 : Shape := ⟨3, ![8, 4105, 128]⟩
abbrev S8x4106x128 : Shape := ⟨3, ![8, 4106, 128]⟩
abbrev S8x4107x128 : Shape := ⟨3, ![8, 4107, 128]⟩
abbrev S8x4108x128 : Shape := ⟨3, ![8, 4108, 128]⟩
abbrev S8x4109x128 : Shape := ⟨3, ![8, 4109, 128]⟩
abbrev S8x4110x128 : Shape := ⟨3, ![8, 4110, 128]⟩
abbrev S8x4111x128 : Shape := ⟨3, ![8, 4111, 128]⟩
abbrev S1x1x512 : Shape := ⟨3, ![1, 1, 512]⟩
abbrev S8x1024x4x1536 : Shape := ⟨4, ![8, 1024, 4, 1536]⟩
abbrev S8x4x1024x1536 : Shape := ⟨4, ![8, 4, 1024, 1536]⟩
abbrev S8x256x16x1536 : Shape := ⟨4, ![8, 256, 16, 1536]⟩
abbrev S8x16x256x1536 : Shape := ⟨4, ![8, 16, 256, 1536]⟩

abbrev nBuf : Space → Nat
  | .hbm => 242
  | .vmem => 0
  | .smem => 0
  | _ => 0

abbrev hbmTy0_0 (i : Nat) : BufTy := match i % 128 with
  | 0 => ⟨S8x4096x1024, .f32⟩
  | 1 => ⟨S1024, .f32⟩
  | 2 => ⟨S1024x2048, .f32⟩
  | 3 => ⟨S4x128x128, .f32⟩
  | 4 => ⟨S512, .f32⟩
  | 5 => ⟨S1024x1024, .f32⟩
  | 6 => ⟨S1024x5632, .f32⟩
  | 7 => ⟨S2816x1024, .f32⟩
  | 8 => ⟨S1024x1024, .f32⟩
  | 9 => ⟨S256x1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S8x4096x2048, .f32⟩
  | 27 => ⟨S8x4096x512, .f32⟩
  | 28 => ⟨S_, .f32⟩
  | 29 => ⟨S8x4096x512, .f32⟩
  | 30 => ⟨S8x4096x512, .f32⟩
  | 31 => ⟨S8x4096x1024, .f32⟩
  | 32 => ⟨S8x4096x1536, .f32⟩
  | 33 => ⟨S8x4096x512, .f32⟩
  | 34 => ⟨S4096, .i32⟩
  | 35 => ⟨S8x4096x128, .f32⟩
  | 36 => ⟨S_, .i32⟩
  | 37 => ⟨S_, .f32⟩
  | 38 => ⟨S8x4097x128, .f32⟩
  | 39 => ⟨S8x4096x128, .f32⟩
  | 40 => ⟨S8x4096x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S1x4096x1, .f32⟩
  | 49 => ⟨S8x4096x128, .f32⟩
  | 50 => ⟨S8x4096x128, .f32⟩
  | 51 => ⟨S8x4096x128, .f32⟩
  | 52 => ⟨S1x128x128, .f32⟩
  | 53 => ⟨S128x128, .f32⟩
  | 54 => ⟨S8x4096x128, .f32⟩
  | 55 => ⟨S8x4096x128, .f32⟩
  | 56 => ⟨S_, .i32⟩
  | 57 => ⟨S_, .f32⟩
  | 58 => ⟨S8x4097x128, .f32⟩
  | 59 => ⟨S8x4096x128, .f32⟩
  | 60 => ⟨S8x4096x128, .f32⟩
  | 61 => ⟨S_, .i32⟩
  | 62 => ⟨S_, .f32⟩
  | 63 => ⟨S8x4098x128, .f32⟩
  | 64 => ⟨S8x4096x128, .f32⟩
  | 65 => ⟨S8x4096x128, .f32⟩
  | 66 => ⟨S_, .i32⟩
  | 67 => ⟨S_, .f32⟩
  | 68 => ⟨S8x4099x128, .f32⟩
  | 69 => ⟨S8x4096x128, .f32⟩
  | 70 => ⟨S8x4096x128, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S1x4096x1, .f32⟩
  | 79 => ⟨S8x4096x128, .f32⟩
  | 80 => ⟨S8x4096x128, .f32⟩
  | 81 => ⟨S8x4096x128, .f32⟩
  | 82 => ⟨S1x128x128, .f32⟩
  | 83 => ⟨S128x128, .f32⟩
  | 84 => ⟨S8x4096x128, .f32⟩
  | 85 => ⟨S8x4096x128, .f32⟩
  | 86 => ⟨S_, .i32⟩
  | 87 => ⟨S_, .f32⟩
  | 88 => ⟨S8x4097x128, .f32⟩
  | 89 => ⟨S8x4096x128, .f32⟩
  | 90 => ⟨S8x4096x128, .f32⟩
  | 91 => ⟨S_, .i32⟩
  | 92 => ⟨S_, .f32⟩
  | 93 => ⟨S8x4098x128, .f32⟩
  | 94 => ⟨S8x4096x128, .f32⟩
  | 95 => ⟨S8x4096x128, .f32⟩
  | 96 => ⟨S_, .i32⟩
  | 97 => ⟨S_, .f32⟩
  | 98 => ⟨S8x4099x128, .f32⟩
  | 99 => ⟨S8x4096x128, .f32⟩
  | 100 => ⟨S8x4096x128, .f32⟩
  | 101 => ⟨S_, .i32⟩
  | 102 => ⟨S_, .f32⟩
  | 103 => ⟨S8x4100x128, .f32⟩
  | 104 => ⟨S8x4096x128, .f32⟩
  | 105 => ⟨S8x4096x128, .f32⟩
  | 106 => ⟨S_, .i32⟩
  | 107 => ⟨S_, .f32⟩
  | 108 => ⟨S8x4101x128, .f32⟩
  | 109 => ⟨S8x4096x128, .f32⟩
  | 110 => ⟨S8x4096x128, .f32⟩
  | 111 => ⟨S_, .i32⟩
  | 112 => ⟨S_, .f32⟩
  | 113 => ⟨S8x4102x128, .f32⟩
  | 114 => ⟨S8x4096x128, .f32⟩
  | 115 => ⟨S8x4096x128, .f32⟩
  | 116 => ⟨S_, .i32⟩
  | 117 => ⟨S_, .f32⟩
  | 118 => ⟨S8x4103x128, .f32⟩
  | 119 => ⟨S8x4096x128, .f32⟩
  | 120 => ⟨S8x4096x128, .f32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S4096, .f32⟩
  | _ => ⟨S8x4096x1024, .f32⟩

abbrev hbmTy0_1 (i : Nat) : BufTy := match i % 128 with
  | 0 => ⟨S1x4096x1, .f32⟩
  | 1 => ⟨S8x4096x128, .f32⟩
  | 2 => ⟨S8x4096x128, .f32⟩
  | 3 => ⟨S8x4096x128, .f32⟩
  | 4 => ⟨S1x128x128, .f32⟩
  | 5 => ⟨S128x128, .f32⟩
  | 6 => ⟨S8x4096x128, .f32⟩
  | 7 => ⟨S8x4096x128, .f32⟩
  | 8 => ⟨S_, .i32⟩
  | 9 => ⟨S_, .f32⟩
  | 10 => ⟨S8x4097x128, .f32⟩
  | 11 => ⟨S8x4096x128, .f32⟩
  | 12 => ⟨S8x4096x128, .f32⟩
  | 13 => ⟨S_, .i32⟩
  | 14 => ⟨S_, .f32⟩
  | 15 => ⟨S8x4098x128, .f32⟩
  | 16 => ⟨S8x4096x128, .f32⟩
  | 17 => ⟨S8x4096x128, .f32⟩
  | 18 => ⟨S_, .i32⟩
  | 19 => ⟨S_, .f32⟩
  | 20 => ⟨S8x4099x128, .f32⟩
  | 21 => ⟨S8x4096x128, .f32⟩
  | 22 => ⟨S8x4096x128, .f32⟩
  | 23 => ⟨S_, .i32⟩
  | 24 => ⟨S_, .f32⟩
  | 25 => ⟨S8x4100x128, .f32⟩
  | 26 => ⟨S8x4096x128, .f32⟩
  | 27 => ⟨S8x4096x128, .f32⟩
  | 28 => ⟨S_, .i32⟩
  | 29 => ⟨S_, .f32⟩
  | 30 => ⟨S8x4101x128, .f32⟩
  | 31 => ⟨S8x4096x128, .f32⟩
  | 32 => ⟨S8x4096x128, .f32⟩
  | 33 => ⟨S_, .i32⟩
  | 34 => ⟨S_, .f32⟩
  | 35 => ⟨S8x4102x128, .f32⟩
  | 36 => ⟨S8x4096x128, .f32⟩
  | 37 => ⟨S8x4096x128, .f32⟩
  | 38 => ⟨S_, .i32⟩
  | 39 => ⟨S_, .f32⟩
  | 40 => ⟨S8x4103x128, .f32⟩
  | 41 => ⟨S8x4096x128, .f32⟩
  | 42 => ⟨S8x4096x128, .f32⟩
  | 43 => ⟨S_, .i32⟩
  | 44 => ⟨S_, .f32⟩
  | 45 => ⟨S8x4104x128, .f32⟩
  | 46 => ⟨S8x4096x128, .f32⟩
  | 47 => ⟨S8x4096x128, .f32⟩
  | 48 => ⟨S_, .i32⟩
  | 49 => ⟨S_, .f32⟩
  | 50 => ⟨S8x4105x128, .f32⟩
  | 51 => ⟨S8x4096x128, .f32⟩
  | 52 => ⟨S8x4096x128, .f32⟩
  | 53 => ⟨S_, .i32⟩
  | 54 => ⟨S_, .f32⟩
  | 55 => ⟨S8x4106x128, .f32⟩
  | 56 => ⟨S8x4096x128, .f32⟩
  | 57 => ⟨S8x4096x128, .f32⟩
  | 58 => ⟨S_, .i32⟩
  | 59 => ⟨S_, .f32⟩
  | 60 => ⟨S8x4107x128, .f32⟩
  | 61 => ⟨S8x4096x128, .f32⟩
  | 62 => ⟨S8x4096x128, .f32⟩
  | 63 => ⟨S_, .i32⟩
  | 64 => ⟨S_, .f32⟩
  | 65 => ⟨S8x4108x128, .f32⟩
  | 66 => ⟨S8x4096x128, .f32⟩
  | 67 => ⟨S8x4096x128, .f32⟩
  | 68 => ⟨S_, .i32⟩
  | 69 => ⟨S_, .f32⟩
  | 70 => ⟨S8x4109x128, .f32⟩
  | 71 => ⟨S8x4096x128, .f32⟩
  | 72 => ⟨S8x4096x128, .f32⟩
  | 73 => ⟨S_, .i32⟩
  | 74 => ⟨S_, .f32⟩
  | 75 => ⟨S8x4110x128, .f32⟩
  | 76 => ⟨S8x4096x128, .f32⟩
  | 77 => ⟨S8x4096x128, .f32⟩
  | 78 => ⟨S_, .i32⟩
  | 79 => ⟨S_, .f32⟩
  | 80 => ⟨S8x4111x128, .f32⟩
  | 81 => ⟨S8x4096x128, .f32⟩
  | 82 => ⟨S8x4096x128, .f32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .f32⟩
  | 90 => ⟨S1x4096x1, .f32⟩
  | 91 => ⟨S8x4096x128, .f32⟩
  | 92 => ⟨S8x4096x128, .f32⟩
  | 93 => ⟨S8x4096x128, .f32⟩
  | 94 => ⟨S1x128x128, .f32⟩
  | 95 => ⟨S128x128, .f32⟩
  | 96 => ⟨S8x4096x128, .f32⟩
  | 97 => ⟨S8x4096x512, .f32⟩
  | 98 => ⟨S1x1x512, .f32⟩
  | 99 => ⟨S8x4096x512, .f32⟩
  | 100 => ⟨S8x4096x512, .f32⟩
  | 101 => ⟨S8x1024x4x1536, .f32⟩
  | 102 => ⟨S8x4x1024x1536, .f32⟩
  | 103 => ⟨S8x256x16x1536, .f32⟩
  | 104 => ⟨S8x16x256x1536, .f32⟩
  | 105 => ⟨S8x4096x1536, .bf16⟩
  | 106 => ⟨S8x4x1024x1536, .bf16⟩
  | 107 => ⟨S8x16x256x1536, .bf16⟩
  | 108 => ⟨S8x4096x512, .bf16⟩
  | 109 => ⟨S1024x1024, .bf16⟩
  | 110 => ⟨S1024x5632, .bf16⟩
  | 111 => ⟨S2816x1024, .bf16⟩
  | 112 => ⟨S1024x1024, .bf16⟩
  | 113 => ⟨S256x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_call2_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_call3_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_10 : Ref sig .tc := ⟨.hbm, 86, rfl⟩
abbrev main_call4_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_call5_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_call6_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_call7_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_call8_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_15 : Ref sig .tc := ⟨.hbm, 111, rfl⟩
abbrev main_call9_v0 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_call10_v0 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_17 : Ref sig .tc := ⟨.hbm, 121, rfl⟩
abbrev main_v81 : Ref sig .tc := ⟨.hbm, 122, rfl⟩
abbrev main_v82 : Ref sig .tc := ⟨.hbm, 123, rfl⟩
abbrev main_c_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_19 : Ref sig .tc := ⟨.hbm, 136, rfl⟩
abbrev main_call11_v0 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_20 : Ref sig .tc := ⟨.hbm, 141, rfl⟩
abbrev main_call12_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_21 : Ref sig .tc := ⟨.hbm, 146, rfl⟩
abbrev main_call13_v0 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_22 : Ref sig .tc := ⟨.hbm, 151, rfl⟩
abbrev main_call14_v0 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_23 : Ref sig .tc := ⟨.hbm, 156, rfl⟩
abbrev main_call15_v0 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_24 : Ref sig .tc := ⟨.hbm, 161, rfl⟩
abbrev main_call16_v0 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_25 : Ref sig .tc := ⟨.hbm, 166, rfl⟩
abbrev main_call17_v0 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_26 : Ref sig .tc := ⟨.hbm, 171, rfl⟩
abbrev main_call18_v0 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_27 : Ref sig .tc := ⟨.hbm, 176, rfl⟩
abbrev main_call19_v0 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_c_28 : Ref sig .tc := ⟨.hbm, 181, rfl⟩
abbrev main_call20_v0 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_c_29 : Ref sig .tc := ⟨.hbm, 186, rfl⟩
abbrev main_call21_v0 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_c_30 : Ref sig .tc := ⟨.hbm, 191, rfl⟩
abbrev main_call22_v0 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_c_31 : Ref sig .tc := ⟨.hbm, 196, rfl⟩
abbrev main_call23_v0 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_c_32 : Ref sig .tc := ⟨.hbm, 201, rfl⟩
abbrev main_call24_v0 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_c_33 : Ref sig .tc := ⟨.hbm, 206, rfl⟩
abbrev main_call25_v0 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_c_34 : Ref sig .tc := ⟨.hbm, 211, rfl⟩
abbrev main_v139 : Ref sig .tc := ⟨.hbm, 212, rfl⟩
abbrev main_v140 : Ref sig .tc := ⟨.hbm, 213, rfl⟩
abbrev main_c_35 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩

abbrev nD : Nat := 1
abbrev τ : Topo := Topo.v7x

variable {F : FTy → Type} [FloatOps F]
-- ==== Proof.Spec.lean ====
/-
  The second half of the layer, one sequence position at a time, over the extended reals: the functions both programs
  are shown to compute. A row is a function of its channel; `Weights` holds the layer's parameters. A position's result
  needs the rows of the position itself and the up-projections of the two positions before it (the causal convolution).
-/
module

public import Idealize.ShloMosaic.Lib.Pointwise

@[expose] public section

noncomputable section

namespace Cert.Ffn

open Idealize.ShloMosaic

/-- The parameters: output projection, the three norms' scales, up projection, convolution taps and bias, down
    projection, the gate and the embedding projections. -/
structure Weights where
  wo : Fin 1024 → Fin 1024 → EReal
  lnf : Fin 1024 → EReal
  wup : Fin 1024 → Fin 5632 → EReal
  cw : Fin 3 → Fin 5632 → EReal
  cb : Fin 5632 → EReal
  wdn : Fin 2816 → Fin 1024 → EReal
  lnp : Fin 1024 → EReal
  wg : Fin 1024 → Fin 1024 → EReal
  wple : Fin 256 → Fin 1024 → EReal
  lnl : Fin 1024 → EReal

/-- Root-mean-square normalisation of a row, scaled. -/
def rms (h g : Fin 1024 → EReal) (n : Fin 1024) : EReal :=
  h n * Ideal.rsqrt (Ideal.div (∑ k, h k * h k) (Ideal.ofBits .f32 0x44800000#32) + Ideal.ofBits .f32 0x358637BD#32) * g n

/-- The attention and pool rows, one beside the other, through the output projection, onto the residual row. -/
def proj (W : Weights) (x : Fin 1024 → EReal) (a p : Fin 512 → EReal) (n : Fin 1024) : EReal :=
  x n + ((∑ k, a k * W.wo ⟨k, by omega⟩ n) + ∑ k, p k * W.wo ⟨512 + k, by omega⟩ n)

/-- The up projection of the normalised row. -/
def pre (W : Weights) (h : Fin 1024 → EReal) (n : Fin 5632) : EReal := ∑ k, rms h W.lnf k * W.wup k n

/-- The causal convolution of width three: `u2` and `u1` are the up projections two and one positions before. -/
def conv (W : Weights) (u2 u1 u0 : Fin 5632 → EReal) (n : Fin 5632) : EReal :=
  W.cb n + W.cw 0 n * u2 n + W.cw 1 n * u1 n + W.cw 2 n * u0 n

/-- The gated activation: the first half of the channels gates the second. -/
def act (u : Fin 5632 → EReal) (l : Fin 2816) : EReal :=
  u ⟨l, by omega⟩ * Ideal.logistic (u ⟨l, by omega⟩) * u ⟨2816 + l, by omega⟩

/-- The row after the feed-forward block. -/
def ffn (W : Weights) (h : Fin 1024 → EReal) (u : Fin 5632 → EReal) (n : Fin 1024) : EReal :=
  h n + ∑ l, act u l * W.wdn l n

/-- The row after the per-layer embedding's gate. -/
def ple (W : Weights) (h : Fin 1024 → EReal) (p : Fin 256 → EReal) (n : Fin 1024) : EReal :=
  h n + Ideal.logistic (∑ k, rms h W.lnp k * W.wg k n) * ∑ k, p k * W.wple k n

/-- The position's result. -/
def outRow (W : Weights) (h : Fin 1024 → EReal) (u2 u1 : Fin 5632 → EReal) (p : Fin 256 → EReal) (n : Fin 1024) : EReal :=
  rms (ple W (ffn W h (conv W u2 u1 (pre W h))) p) W.lnl n

/-- The up projection `k` positions before position `s` of the sequence whose rows are `h`: zero before the start. -/
def back (W : Weights) (h : Fin 4096 → Fin 1024 → EReal) (k : ℕ) (s : Fin 4096) (n : Fin 5632) : EReal :=
  if k ≤ s.val then pre W (h ⟨s.val - k, by omega⟩) n else 0

/-- Half `p` (0 low, 1 high) of a 32-bit word, as the 16-bit number it spells. -/
def half (w : BitVec 32) (p : ℕ) : EReal := Ideal.ofBits .bf16 (w.extractLsb' (p * 16) 16)

end Cert.Ffn

end
-- ==== Proof.RefRow.lean ====
/-
  The reference, read at a position and a channel: its result there is `Cert.Ffn.outRow` of the position's rows.
-/
module

public import proofs.«01_k».proof.Proof.Gen.ReferenceIdeal.Run
public import proofs.«01_k».proof.Proof.Spec

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Value Cert.Ffn

variable (V : Valuation τ sig (Elt Ideal))

/-- The parameters, read from the arguments. -/
def W : Weights where
  wo k n := V (Proc.devRef .tc main_arg4) (ix2 k n)
  lnf n := V (Proc.devRef .tc main_arg5) (ix1 n)
  wup k n := V (Proc.devRef .tc main_arg6) (ix2 k n)
  cw k n := V (Proc.devRef .tc main_arg7) (ix2 k n)
  cb n := V (Proc.devRef .tc main_arg8) (ix1 n)
  wdn k n := V (Proc.devRef .tc main_arg9) (ix2 k n)
  lnp n := V (Proc.devRef .tc main_arg10) (ix1 n)
  wg k n := V (Proc.devRef .tc main_arg11) (ix2 k n)
  wple k n := V (Proc.devRef .tc main_arg12) (ix2 k n)
  lnl n := V (Proc.devRef .tc main_arg13) (ix1 n)

/-- Position `s` of batch row `b`: the residual row, -/
def xr (b : Fin 8) (s : Fin 4096) (n : Fin 1024) : EReal := V (Proc.devRef .tc main_arg0) (ix3 b s n)
/-- the attention row, unpacked from the words, -/
def ar (b : Fin 8) (s : Fin 4096) (n : Fin 512) : EReal :=
  half (V (Proc.devRef .tc main_arg1) (ix3 b ⟨s / 2, by omega⟩ n)) (s % 2)
/-- the pool row, unpacked from the words, -/
def pr (b : Fin 8) (s : Fin 4096) (n : Fin 512) : EReal :=
  half (V (Proc.devRef .tc main_arg2) (ix3 b ⟨s / 2, by omega⟩ n)) (s % 2)
/-- the embedding row, -/
def er (b : Fin 8) (s : Fin 4096) (n : Fin 256) : EReal := V (Proc.devRef .tc main_arg3) (ix3 b s n)
/-- and the row the feed-forward block starts from. -/
def h1 (b : Fin 8) (s : Fin 4096) : Fin 1024 → EReal := proj (W V) (xr V b s) (ar V b s) (pr V b s)

/-- The host's split of a word array into halves, read at an index. -/
theorem narrow_at (x : IVec S8x2048x512 32) (h : S8x2048x512.SplitsWords 32 S8x2048x512x2 16) (b : Fin 8) (r : Fin 2048)
    (k : Fin 512) (p : Fin 2) :
    Host.bitcastConvertNarrow S8x2048x512x2 16 x h (ix4 b r k p) = (x (ix3 b r k)).extractLsb' (p * 16) 16 := by
  have e : h.drop (ix4 b r k p) = ix3 b r k := by funext a; fin_cases a <;> rfl
  exact congrArg (fun i => (x i).extractLsb' (p.val * 16) 16) e

/-- The reference's rows after the output projection. -/
theorem v11_at (b : Fin 8) (s : Fin 4096) (n : Fin 1024) : res_main_v11 (F := Ideal) V (ix3 b s n) = h1 V b s n := by
  pointwise [res_main_v11, h1, proj, xr, ar, pr, W, half]
  refine Ideal.add_congr rfl (Ideal.add_congr ?_ ?_)
  all_goals exact Finset.sum_congr rfl fun k _ => Ideal.mul_congr (congrArg _ (narrow_at _ _ _ _ _ _)) rfl

/-- The reference's up projection. -/
theorem v26_at (b : Fin 8) (s : Fin 4096) (n : Fin 5632) : res_main_v26 (F := Ideal) V (ix3 b s n) = pre (W V) (h1 V b s) n := by
  pointwise [res_main_v26, v11_at, pre, rms]
  rfl

/-- An index at least `k` positions into the sequence lies past `k` positions of padding. -/
theorem inside {M : ℕ} (b : Fin 8) (s : Fin M) (hM : s.val < 4096) (n : Fin 5632) (k : ℕ) (hs : k ≤ s.val) :
    ∀ a : Fin 3, (![0, k, 0] : Fin 3 → ℕ) a ≤ (ix3 b s n a).val ∧
      ((ix3 b s n a).val - (![0, k, 0] : Fin 3 → ℕ) a) % ((![0, 0, 0] : Fin 3 → ℕ) a + 1) = 0 ∧
        ((ix3 b s n a).val - (![0, k, 0] : Fin 3 → ℕ) a) / ((![0, 0, 0] : Fin 3 → ℕ) a + 1) < S8x4096x5632.size a
  | ⟨0, _⟩ => by show 0 ≤ b.val ∧ (b.val - 0) % (0 + 1) = 0 ∧ (b.val - 0) / (0 + 1) < 8; omega
  | ⟨1, _⟩ => by show k ≤ s.val ∧ (s.val - k) % (0 + 1) = 0 ∧ (s.val - k) / (0 + 1) < 4096; omega
  | ⟨2, _⟩ => by show 0 ≤ n.val ∧ (n.val - 0) % (0 + 1) = 0 ∧ (n.val - 0) / (0 + 1) < 5632; omega

/-- The padding's value. -/
theorem fill : (FloatOps.sitofp (F := Ideal) FTy.f32 0#32 : EReal) = 0 := by
  show (((0#32 : BitVec 32).toInt : ℝ) : EReal) = 0
  simp

/-- The position's convolution. -/
def u (b : Fin 8) (s : Fin 4096) : Fin 5632 → EReal :=
  conv (W V) (back (W V) (h1 V b) 2 s) (back (W V) (h1 V b) 1 s) (pre (W V) (h1 V b s))

/-- The reference's convolution. -/
theorem v50_at (b : Fin 8) (s : Fin 4096) (n : Fin 5632) : res_main_v50 (F := Ideal) V (ix3 b s n) = u V b s n := by
  pointwise [res_main_v50, v26_at]
  refine Ideal.add_congr (Ideal.add_congr (Ideal.add_congr rfl (Ideal.mul_congr rfl ?_)) (Ideal.mul_congr rfl ?_)) rfl
  · by_cases hs : 2 ≤ s.val
    · rw [back, if_pos hs]; refine dif_pos ?_; exact inside (M := 4098) b ⟨s.val, by omega⟩ s.isLt n _ hs
    · rw [back, if_neg hs]; exact (dif_neg fun h => hs (h 1).1).trans fill
  · by_cases hs : 1 ≤ s.val
    · rw [back, if_pos hs]; refine dif_pos ?_; exact inside (M := 4097) b ⟨s.val, by omega⟩ s.isLt n _ hs
    · rw [back, if_neg hs]; exact (dif_neg fun h => hs (h 1).1).trans fill

/-- The reference's rows after the down projection. -/
theorem v57_at (b : Fin 8) (s : Fin 4096) (n : Fin 1024) :
    res_main_v57 (F := Ideal) V (ix3 b s n) = ffn (W V) (h1 V b s) (u V b s) n := by
  pointwise [res_main_v57, res_main_v51, v50_at, v11_at, ffn, act]
  rfl

/-- The reference's rows after the gated embedding. -/
theorem v82_at (b : Fin 8) (s : Fin 4096) (n : Fin 1024) :
    res_main_v82 (F := Ideal) V (ix3 b s n) = ple (W V) (ffn (W V) (h1 V b s) (u V b s)) (er V b s) n := by
  pointwise [res_main_v82, v57_at, ple, rms]
  rfl

/-- The last normalisation, on the row so far. -/
def REF : FVec Ideal S8x4096x1024 .f32 :=
  mulf (mulf (res_main_v82 V) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v82 V) (res_main_v82 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (V (Proc.devRef .tc main_arg13))))

/-- The reference's result at a position and a channel. -/
theorem REF_at (b : Fin 8) (s : Fin 4096) (n : Fin 1024) :
    REF V (ix3 b s n)
      = outRow (W V) (h1 V b s) (back (W V) (h1 V b) 2 s) (back (W V) (h1 V b) 1 s) (er V b s) n := by
  pointwise [REF, v82_at, outRow, rms]
  rfl

end Cert.ReferenceIdeal.Row

end
-- ==== Proof.Stage.lean ====
/-
  Reads back from the two scratches of the convolution. The staging buffer holds, for one lane tile, eight rows of
  history and the block's 256 rows on every third row; reading it three rows (or six) higher gives the block shifted by
  one row (or two), the first rows coming from the history. The history itself is a buffer of eight rows, written and
  read in column blocks.
-/
module

public import Idealize.ShloMosaic.Lib.Pipeline.ReadBack
public import proofs.«01_k».proof.Proof.Gen.KernelIdeal.Skeleton
public import proofs.«01_k».proof.Proof.Spec

@[expose] public section

set_option maxRecDepth 16384

noncomputable section

namespace Cert.KernelIdeal.Stage

open Idealize.ShloMosaic Idealize.ShloMosaic.TcCoe Idealize.SL.Sem
open Cert.KernelIdeal Cert.KernelIdeal.Gen

variable {sig : RefSig} {κ : Kind} {sp : Space}

/-- A read falling in the piece written last. -/
theorem read_at {s : Shape} {e : EltTy} (v : View sig κ sp s e) (r : Rect s) (w : r.shape.Idx → Elt Ideal e)
    (L : List (View.Piece (Elt Ideal) s e)) (B : LoadRect s) (j : B.shape.Idx) (x : r.shape.Idx)
    (h : ∀ a, B.off a + B.stride a * (j a).val = r.off a + r.stride a * (x a).val) : v.readCov (⟨r, w⟩ :: L) B j = w x := by
  rw [View.readCov_eq_canon']
  have e : B.idx j = r.emb x := funext fun a => Fin.ext (h a)
  show View.canon _ (B.idx j) = w x
  rw [e]
  exact View.canon_cons_emb r w L x

/-- A read falling outside the piece written last, on axis `a`. -/
theorem read_off {s : Shape} {e : EltTy} (v : View sig κ sp s e) (r : Rect s) (w : r.shape.Idx → Elt Ideal e)
    (L : List (View.Piece (Elt Ideal) s e)) (B : LoadRect s) (j : B.shape.Idx) (a : Fin s.rank)
    (h : ∀ q < r.size a, B.off a + B.stride a * (j a).val ≠ r.off a + r.stride a * q) : v.readCov (⟨r, w⟩ :: L) B j = v.readCov L B j := by
  rw [View.readCov_eq_canon', View.readCov_eq_canon']
  refine View.canon_cons_of_not_mem ⟨r, w⟩ L fun hm => ?_
  obtain ⟨q, hq, he⟩ := (LoadRect.mem_set (r := r.toLoadRect)).1 hm a
  exact h q hq he

/-- The block's rows read `k` rows back: row `r - k` of the block, or row `8 + r - k` of the history. -/
theorem stage_read (v : View sig κ sp S4x2x792x128 .f32) {s l o k : ℕ} (hok : o + 3 * k = 24) (hk : k ≤ 8) {hp sp' hc sc hb}
    (P : S1x1x256x128.Idx → EReal) (C : S1x1x8x128.Idx → EReal) (L : List (View.Piece (Elt Ideal) S4x2x792x128 .f32))
    (r : Fin 256) (c : Fin 128) :
    v.readCov (⟨(⟨⟨![s, l, 24, 0], S1x1x256x128.size, ![1, 1, 3, 1], hp⟩, sp'⟩ : Rect S4x2x792x128), P⟩ ::
        ⟨(⟨⟨![s, l, 0, 0], S1x1x8x128.size, ![1, 1, 3, 1], hc⟩, sc⟩ : Rect S4x2x792x128), C⟩ :: L)
      (⟨![s, l, o, 0], S1x1x256x128.size, ![1, 1, 3, 1], hb⟩ : LoadRect S4x2x792x128) (ix4 0 0 r c)
    = if h : k ≤ r.val then P (ix4 0 0 ⟨r.val - k, by omega⟩ c) else C (ix4 0 0 ⟨8 + r.val - k, by omega⟩ c) := by
  split
  next h =>
    refine read_at v (⟨⟨![s, l, 24, 0], S1x1x256x128.size, ![1, 1, 3, 1], hp⟩, sp'⟩ : Rect S4x2x792x128) P _
      (⟨![s, l, o, 0], S1x1x256x128.size, ![1, 1, 3, 1], hb⟩ : LoadRect S4x2x792x128) (ix4 0 0 r c) (ix4 0 0 ⟨r.val - k, by omega⟩ c) ?_
    intro a
    match a with
    | ⟨0, _⟩ => rfl
    | ⟨1, _⟩ => rfl
    | ⟨2, _⟩ => show o + 3 * r.val = 24 + 3 * (r.val - k); omega
    | ⟨3, _⟩ => rfl
  next h =>
    refine (read_off v (⟨⟨![s, l, 24, 0], S1x1x256x128.size, ![1, 1, 3, 1], hp⟩, sp'⟩ : Rect S4x2x792x128) P _
      (⟨![s, l, o, 0], S1x1x256x128.size, ![1, 1, 3, 1], hb⟩ : LoadRect S4x2x792x128) (ix4 0 0 r c) ⟨2, by decide⟩ ?_).trans ?_
    · intro q _ he
      have he' : o + 3 * r.val = 24 + 3 * q := he
      omega
    · refine read_at v (⟨⟨![s, l, 0, 0], S1x1x8x128.size, ![1, 1, 3, 1], hc⟩, sc⟩ : Rect S4x2x792x128) C _
        (⟨![s, l, o, 0], S1x1x256x128.size, ![1, 1, 3, 1], hb⟩ : LoadRect S4x2x792x128) (ix4 0 0 r c) (ix4 0 0 ⟨8 + r.val - k, by omega⟩ c) ?_
      intro a
      match a with
      | ⟨0, _⟩ => rfl
      | ⟨1, _⟩ => rfl
      | ⟨2, _⟩ => show o + 3 * r.val = 0 + 3 * (8 + r.val - k); omega
      | ⟨3, _⟩ => rfl

/-- A lane tile of the history lying in the column block written last. -/
theorem carry_read (v : View sig κ sp S8x5632 .f32) {a b : ℕ} (hab : a ≤ b) (hba : b + 128 ≤ a + 256) {hp hb}
    (P : S8x256.Idx → EReal) (L : List (View.Piece (Elt Ideal) S8x5632 .f32)) (i : Fin 8) (c : Fin 128) :
    v.readCov (⟨Rect.unit (s := S8x5632) ![0, a] S8x256.size hp, P⟩ :: L) (Rect.unit (s := S8x5632) ![0, b] S8x128.size hb).toLoadRect (ix2 i c)
    = P (ix2 i ⟨b - a + c.val, by omega⟩) := by
  refine read_at v (Rect.unit (s := S8x5632) ![0, a] S8x256.size hp) P L (Rect.unit (s := S8x5632) ![0, b] S8x128.size hb).toLoadRect (ix2 i c)
    (ix2 i ⟨b - a + c.val, by omega⟩) ?_
  intro x
  match x with
  | ⟨0, _⟩ => rfl
  | ⟨1, _⟩ => show b + 1 * c.val = a + 1 * (b - a + c.val); omega

/-- Another column block is passed over. -/
theorem carry_skip (v : View sig κ sp S8x5632 .f32) {a b : ℕ} (hab : a + 256 ≤ b ∨ b + 128 ≤ a) {hp hb}
    (P : S8x256.Idx → EReal) (L : List (View.Piece (Elt Ideal) S8x5632 .f32)) :
    v.readCov (⟨Rect.unit (s := S8x5632) ![0, a] S8x256.size hp, P⟩ :: L) (Rect.unit (s := S8x5632) ![0, b] S8x128.size hb).toLoadRect
    = v.readCov L (Rect.unit (s := S8x5632) ![0, b] S8x128.size hb).toLoadRect := by
  funext j
  refine read_off v (Rect.unit (s := S8x5632) ![0, a] S8x256.size hp) P L (Rect.unit (s := S8x5632) ![0, b] S8x128.size hb).toLoadRect j ⟨1, by decide⟩ ?_
  intro q hq he
  have he' : b + 1 * (j 1).val = a + 1 * q := he
  have hq' : q < 256 := hq
  have hj : (j 1).val < 128 := (j 1).isLt
  omega

end Cert.KernelIdeal.Stage

end
-- ==== Proof.Pay.lean ====
/-
  The kernel's arithmetic at a row of a block of 256 rows and a channel.
-/
module

public import Idealize.ShloMosaic.Lib.BitcastPair
public import proofs.«01_k».proof.Proof.Gen.KernelIdeal.Skeleton
public import proofs.«01_k».proof.Proof.Spec

@[expose] public section

set_option maxRecDepth 16384

noncomputable section

namespace Cert.KernelIdeal.Pay

open Idealize.ShloMosaic Idealize.ShloMosaic.TcCoe Idealize.SL.Sem
open Cert.KernelIdeal Cert.KernelIdeal.Gen Cert.Ffn

/-- A row of packed words spelled out: the row's halves of the words of row `r / 2`. -/
theorem unpack_at (a : Vec Ideal S1x128x512 .i32) (r : Fin 256) (k : Fin 512) :
    k0_pay5 (F := Ideal) a (ix2 r k) = half (a (ix3 0 ⟨r.val / 2, by omega⟩ k)) (r.val % 2) := by
  pointwise [k0_pay5]
  rw [bitcast_32_16, Nat.mul_comm]
  have hr : S256x512.row (ix2 r k) = r.val := rfl
  refine congrArg (fun w : BitVec 32 => Ideal.ofBits .bf16 (w.extractLsb' (r.val % 2 * 16) 16)) ?_
  refine (congrArg (shapeCast S128x512 a shapeCasts_S1x128x512_S128x512)
    (?_ : _ = (ix2 (⟨r.val / 2, by omega⟩ : Fin 128) k : S128x512.Idx))).trans ?_
  · funext x
    apply Fin.ext
    match x with
    | ⟨0, _⟩ => exact (Shape.Bitcasts.srcIdx_row _ _ _ _ _ rfl)
    | ⟨1, _⟩ => rfl
  · pointwise

/-- The rows after the output projection: the input row plus the two products with the halves of the projection matrix. -/
theorem proj_at (x : Vec Ideal S1x256x1024 .f32) (a : Vec Ideal S1x128x512 .i32) (wa : Vec Ideal S512x1024 .bf16)
    (p : Vec Ideal S1x128x512 .i32) (wp : Vec Ideal S512x1024 .bf16) (r : Fin 256) (n : Fin 1024) :
    k0_pay3 (F := Ideal) x a wa p wp (ix2 r n)
    = x (ix3 0 r n) + (∑ k, k0_pay5 (F := Ideal) a (ix2 r k) * wa (ix2 k n)) + ∑ k, k0_pay5 (F := Ideal) p (ix2 r k) * wp (ix2 k n) := by
  show k0_pay6 (F := Ideal) (k0_pay4 x a wa) (k0_pay5 p) wp (ix2 r n) = _
  generalize k0_pay5 (F := Ideal) p = P
  pointwise [k0_pay6, k0_pay4]
  rfl

/-- A normalised row, scaled by its gains. -/
theorem norm_at (h : FVec Ideal S256x1024 .f32) (g : Vec Ideal S1x1024 .f32) (r : Fin 256) (n : Fin 1024) :
    k0_pay7 (F := Ideal) h g (ix2 r n) = rms (fun k => h (ix2 r k)) (fun k => g (ix2 0 k)) n := by
  pointwise [k0_pay7, rms]

/-- The payload that normalises in one step is the two-step one, composed. -/
theorem norm_one : @k0_pay8 Ideal _ = fun v24 v27 v28 v46 => k0_pay7 (k0_pay6 v24 v27 v28) v46 := rfl

/-- One block of columns of the up projection is a sum of products. -/
theorem up_at (h : FVec Ideal S256x1024 .bf16) (w : Vec Ideal S1024x256 .bf16) (r : Fin 256) (c : Fin 256) :
    k0_pay21 (F := Ideal) h w (ix2 r c) = ∑ k, h (ix2 r k) * w (ix2 k c) := by
  pointwise [k0_pay21]

/-- The convolution of a block of 256 channels: `g2`, `g1` are its two lane tiles' rows two and one positions before. -/
theorem conv_at (u : FVec Ideal S256x256 .f32) (g1a g2a g1b g2b : Vec Ideal S1x1x256x128 .f32) (cb c0 c1 c2 : Vec Ideal S1x256 .f32)
    (r : Fin 256) (c : Fin 256) :
    k0_pay20 (F := Ideal) u (k0_pay12 g1a) (k0_pay12 g2a) (k0_pay12 g1b) (k0_pay12 g2b) cb c0 c1 c2 (ix2 r c)
    = cb (ix2 0 c) + c0 (ix2 0 c) * (if h : c.val < 128 then g2a (ix4 0 0 r ⟨c, h⟩) else g2b (ix4 0 0 r ⟨c.val - 128, by omega⟩))
      + c1 (ix2 0 c) * (if h : c.val < 128 then g1a (ix4 0 0 r ⟨c, h⟩) else g1b (ix4 0 0 r ⟨c.val - 128, by omega⟩))
      + c2 (ix2 0 c) * u (ix2 r c) := by
  pointwise [k0_pay20, k0_pay12]

/-- The gated activation of a block of 256 channels, its two convolutions given. -/
def gated (G V : FVec Ideal S256x256 .f32) : FVec Ideal S256x256 .bf16 :=
  shapeCast S256x256 (truncf .bf16 (mulf (mulf G (logistic G)) V) bitsLt_bf16_f32) shapeCasts_S256x256_S256x256

/-- The activation: a gate times its sigmoid, times the value. -/
theorem gated_at (G V : FVec Ideal S256x256 .f32) (r c : Fin 256) :
    gated G V (ix2 r c) = G (ix2 r c) * Ideal.logistic (G (ix2 r c)) * V (ix2 r c) := by
  pointwise [gated]

/-- The residual row plus the down projection of its activations. -/
theorem down_at (h : FVec Ideal S256x1024 .f32) (a : Vec Ideal S256x2816 .bf16) (w : Vec Ideal S2816x1024 .bf16) (r : Fin 256) (n : Fin 1024) :
    k0_pay471 (F := Ideal) h a w (ix2 r n) = h (ix2 r n) + ∑ l, a (ix2 r l) * w (ix2 l n) := by
  pointwise [k0_pay471]

/-- The end of the layer, from the rows after the feed-forward block. -/
def tail (h : FVec Ideal S256x1024 .f32) (g : Vec Ideal S1x1024 .f32) (wg : Vec Ideal S1024x1024 .bf16) (p : Vec Ideal S1x256x256 .f32)
    (wp : Vec Ideal S256x1024 .bf16) (gl : Vec Ideal S1x1024 .f32) : FVec Ideal S1x256x1024 .f32 :=
  k0_pay1 (k0_pay478 h (k0_pay476 g) (k0_pay477 h) wg p wp) (k0_pay479 gl) (k0_pay480 h (k0_pay476 g) (k0_pay477 h) wg p wp)

/-- The residual row plus the embedding product, gated by the sigmoid of a product of the normalised row. -/
theorem gate_at (h : FVec Ideal S256x1024 .f32) (g : Vec Ideal S1x1024 .f32) (wg : Vec Ideal S1024x1024 .bf16) (p : Vec Ideal S1x256x256 .f32)
    (wp : Vec Ideal S256x1024 .bf16) (r : Fin 256) (n : Fin 1024) :
    k0_pay478 (F := Ideal) h (k0_pay476 g) (k0_pay477 h) wg p wp (ix2 r n)
    = h (ix2 r n) + Ideal.logistic (∑ k, rms (fun k => h (ix2 r k)) (fun k => g (ix2 0 k)) k * wg (ix2 k n)) * ∑ k, p (ix3 0 r k) * wp (ix2 k n) := by
  pointwise [k0_pay478, k0_pay476, k0_pay477, rms]

/-- The last normalisation of a row. -/
theorem last_at (h : FVec Ideal S256x1024 .f32) (g : Vec Ideal S1x1024 .f32) (r : Fin 256) (n : Fin 1024) :
    k0_pay1 (F := Ideal) h (k0_pay479 g) (k0_pay477 h) (ix3 0 r n) = rms (fun k => h (ix2 r k)) (fun k => g (ix2 0 k)) n := by
  pointwise [k0_pay1, k0_pay479, k0_pay477, rms]

/-- Everything after the down projection, for one row. -/
theorem tail_at (h : FVec Ideal S256x1024 .f32) (g : Vec Ideal S1x1024 .f32) (wg : Vec Ideal S1024x1024 .bf16) (p : Vec Ideal S1x256x256 .f32)
    (wp : Vec Ideal S256x1024 .bf16) (gl : Vec Ideal S1x1024 .f32) (r : Fin 256) (n : Fin 1024) :
    tail h g wg p wp gl (ix3 0 r n)
    = rms (fun n => h (ix2 r n) + Ideal.logistic (∑ k, rms (fun k => h (ix2 r k)) (fun k => g (ix2 0 k)) k * wg (ix2 k n))
        * ∑ k, p (ix3 0 r k) * wp (ix2 k n)) (fun k => gl (ix2 0 k)) n := by
  refine (last_at (k0_pay478 h (k0_pay476 g) (k0_pay477 h) wg p wp) gl r n).trans ?_
  simp only [gate_at]

/-- The first half's last store is the same arithmetic. -/
theorem tail_zero (h : FVec Ideal S256x1024 .f32) (act : Vec Ideal S256x2816 .bf16) (wd : Vec Ideal S2816x1024 .bf16) (g : Vec Ideal S1x1024 .f32)
    (wg : Vec Ideal S1024x1024 .bf16) (p : Vec Ideal S1x256x256 .f32) (wp : Vec Ideal S256x1024 .bf16) (gl : Vec Ideal S1x1024 .f32) :
    k0_pay475 (F := Ideal) (k0_pay471 h act wd) (k0_pay473 g) (k0_pay474 h act wd) (Scalar.ofBits .f32 0x358637BD#32) wg p wp gl
    = tail (k0_pay471 h act wd) g wg p wp gl := rfl

/-- The rows `U` of a half block read `k` positions back, over the eight rows `car` before it. -/
def tap (U : Fin 256 → Fin 5632 → EReal) (car : Fin 8 → Fin 5632 → EReal) (k : ℕ) (r : Fin 256) (n : Fin 5632) : EReal :=
  if h : k ≤ r.val then U ⟨r.val - k, by omega⟩ n else car ⟨8 + r.val - k, by omega⟩ n

/-- The convolution of the block of channels starting at `a`. -/
theorem conv_block (W : Weights) (U : Fin 256 → Fin 5632 → EReal) (car : Fin 8 → Fin 5632 → EReal) (a : ℕ) (ha : a + 256 ≤ 5632)
    (u : FVec Ideal S256x256 .f32) (g1a g2a g1b g2b : Vec Ideal S1x1x256x128 .f32) (cb c0 c1 c2 : Vec Ideal S1x256 .f32)
    (hu : ∀ r c, u (ix2 r c) = U r ⟨a + c.val, by omega⟩)
    (h1a : ∀ r c, g1a (ix4 0 0 r c) = tap U car 1 r ⟨a + c.val, by omega⟩)
    (h2a : ∀ r c, g2a (ix4 0 0 r c) = tap U car 2 r ⟨a + c.val, by omega⟩)
    (h1b : ∀ r c, g1b (ix4 0 0 r c) = tap U car 1 r ⟨a + (128 + c.val), by omega⟩)
    (h2b : ∀ r c, g2b (ix4 0 0 r c) = tap U car 2 r ⟨a + (128 + c.val), by omega⟩)
    (hcb : ∀ c, cb (ix2 0 c) = W.cb ⟨a + c.val, by omega⟩) (hc0 : ∀ c, c0 (ix2 0 c) = W.cw 0 ⟨a + c.val, by omega⟩)
    (hc1 : ∀ c, c1 (ix2 0 c) = W.cw 1 ⟨a + c.val, by omega⟩) (hc2 : ∀ c, c2 (ix2 0 c) = W.cw 2 ⟨a + c.val, by omega⟩)
    (r c : Fin 256) :
    k0_pay20 (F := Ideal) u (k0_pay12 g1a) (k0_pay12 g2a) (k0_pay12 g1b) (k0_pay12 g2b) cb c0 c1 c2 (ix2 r c)
    = conv W (tap U car 2 r) (tap U car 1 r) (U r) ⟨a + c.val, by omega⟩ := by
  rw [conv_at, hcb, hc0, hc1, hc2, hu]
  have e2 : (if h : c.val < 128 then g2a (ix4 0 0 r ⟨c, h⟩) else g2b (ix4 0 0 r ⟨c.val - 128, by omega⟩))
      = tap U car 2 r ⟨a + c.val, by omega⟩ := by
    split
    · rw [h2a]
    · rw [h2b]; exact congrArg _ (Fin.ext (show a + (128 + (c.val - 128)) = a + c.val by omega))
  have e1 : (if h : c.val < 128 then g1a (ix4 0 0 r ⟨c, h⟩) else g1b (ix4 0 0 r ⟨c.val - 128, by omega⟩))
      = tap U car 1 r ⟨a + c.val, by omega⟩ := by
    split
    · rw [h1a]
    · rw [h1b]; exact congrArg _ (Fin.ext (show a + (128 + (c.val - 128)) = a + c.val by omega))
  rw [e1, e2]
  rfl

/-- A lane tile of a block of channels, as staged: the tile starting at lane `l`. -/
theorem lane_zero (u : FVec Ideal S256x256 .f32) (r : Fin 256) (c : Fin 128) :
    k0_pay11 (F := Ideal) u (ix4 0 0 r c) = u (ix2 r ⟨c.val, by omega⟩) := by
  pointwise [k0_pay11]

/-- The second lane tile of a block of columns. -/
theorem lane_one (u : FVec Ideal S256x256 .f32) (r : Fin 256) (c : Fin 128) :
    k0_pay15 (F := Ideal) u (ix4 0 0 r c) = u (ix2 r ⟨128 + c.val, by omega⟩) := by
  pointwise [k0_pay15]

/-- The payload that stages the history changes only its shape. -/
theorem hist_at (w : Vec Ideal S8x128 .f32) (i : Fin 8) (c : Fin 128) : k0_pay10 (F := Ideal) w (ix4 0 0 i c) = w (ix2 i c) := by
  pointwise [k0_pay10]

/-- The rows kept for the next half block are the last eight. -/
theorem last_rows (u : FVec Ideal S256x256 .f32) (i : Fin 8) (c : Fin 256) :
    k0_pay18 (F := Ideal) u (ix2 i c) = u (ix2 ⟨248 + i.val, by omega⟩ c) := by
  pointwise [k0_pay18]

end Cert.KernelIdeal.Pay

end
-- ==== Proof.Piece.lean ====
/-
  One block of 256 channels of one half block, as the kernel computes it: up projection, staging of its two lane tiles
  behind the eight rows of history, the two shifted reads of each, the convolution, and the gated activation.
-/
module

public import proofs.«01_k».proof.Proof.Stage
public import proofs.«01_k».proof.Proof.Pay

@[expose] public section

set_option maxRecDepth 16384

noncomputable section

namespace Cert.KernelIdeal.Piece

open Idealize.ShloMosaic Idealize.ShloMosaic.TcCoe Idealize.SL.Sem
open Cert.KernelIdeal Cert.KernelIdeal.Gen Cert.Ffn Cert.KernelIdeal.Pay Cert.KernelIdeal.Stage

/-- A block of columns loaded from a buffer that is held whole. -/
theorem cols_at {e : EltTy} {A B K N : ℕ} {m : Memref sig .tc .vmem ⟨2, ![A, B]⟩ e} (hm : m.IsWhole) (x : Vec Ideal ⟨2, ![A, B]⟩ e)
    (p q : ℕ) {h} (hp : p + K ≤ A) (hq : q + N ≤ B) (k : Fin K) (n : Fin N) :
    View.readAt (Elt Ideal) m.view (Rect.unit (s := ⟨2, ![A, B]⟩) ![p, q] (⟨2, ![K, N]⟩ : Shape).size h).toLoadRect (hm.unread x) (ix2 k n)
    = x (ix2 ⟨p + k.val, by omega⟩ ⟨q + n.val, by omega⟩) := by
  refine (congrFun (hm.read_unread x) _).trans (congrArg x ?_)
  funext a
  apply Fin.ext
  match a with
  | ⟨0, _⟩ => show p + 1 * k.val = p + k.val; omega
  | ⟨1, _⟩ => show q + 1 * n.val = q + n.val; omega

/-- The same for rank three, the leading axis of size one. -/
theorem rows_at {e : EltTy} {A B K N : ℕ} {m : Memref sig .tc .vmem ⟨3, ![1, A, B]⟩ e} (hm : m.IsWhole) (x : Vec Ideal ⟨3, ![1, A, B]⟩ e)
    (p q : ℕ) {h} (hp : p + K ≤ A) (hq : q + N ≤ B) (k : Fin K) (n : Fin N) :
    View.readAt (Elt Ideal) m.view (Rect.unit (s := ⟨3, ![1, A, B]⟩) ![0, p, q] (⟨3, ![1, K, N]⟩ : Shape).size h).toLoadRect (hm.unread x) (ix3 0 k n)
    = x (ix3 0 ⟨p + k.val, by omega⟩ ⟨q + n.val, by omega⟩) := by
  refine (congrFun (hm.read_unread x) _).trans (congrArg x ?_)
  funext a
  apply Fin.ext
  match a with
  | ⟨0, _⟩ => rfl
  | ⟨1, _⟩ => show p + 1 * k.val = p + k.val; omega
  | ⟨2, _⟩ => show q + 1 * n.val = q + n.val; omega

/-- A staged lane tile, read `k` rows back. -/
theorem stage_tap {κ : Kind} {sp : Space} (v : View sig κ sp S4x2x792x128 .f32) {s l o k : ℕ} (hok : o + 3 * k = 24) (hk : k ≤ 8) {hp sp' hc sc hb}
    (P : S1x1x256x128.Idx → EReal) (C : S1x1x8x128.Idx → EReal) (L : List (View.Piece (Elt Ideal) S4x2x792x128 .f32))
    (U : Fin 256 → Fin 5632 → EReal) (car : Fin 8 → Fin 5632 → EReal) (n : Fin 5632) (c : Fin 128)
    (hP : ∀ r, P (ix4 0 0 r c) = U r n) (hC : ∀ i, C (ix4 0 0 i c) = car i n) (r : Fin 256) :
    v.readCov (⟨(⟨⟨![s, l, 24, 0], S1x1x256x128.size, ![1, 1, 3, 1], hp⟩, sp'⟩ : Rect S4x2x792x128), P⟩ ::
        ⟨(⟨⟨![s, l, 0, 0], S1x1x8x128.size, ![1, 1, 3, 1], hc⟩, sc⟩ : Rect S4x2x792x128), C⟩ :: L)
      (⟨![s, l, o, 0], S1x1x256x128.size, ![1, 1, 3, 1], hb⟩ : LoadRect S4x2x792x128) (ix4 0 0 r c)
    = tap U car k r n := by
  rw [stage_read v hok hk]
  unfold tap
  split
  · exact hP _
  · exact hC _

/-- The up projection of the block of channels starting at `a`. -/
abbrev upBlock (hn : FVec Ideal S256x1024 .bf16) (arg8 : Memref sig .tc .vmem S1024x5632 .bf16) (harg8 : arg8.IsWhole) (x6 : Vec Ideal S1024x5632 .bf16)
    (a : ℕ) (ia : ∀ d, ![0, a] d + S1024x256.size d ≤ S1024x5632.size d) : FVec Ideal S256x256 .f32 :=
  k0_pay21 (F := Ideal) hn (View.readAt (Elt Ideal) arg8.view (Rect.unit (s := S1024x5632) ![0, a] S1024x256.size ia).toLoadRect (harg8.unread x6))

/-- A block of columns of the up projection, read from the whole weight array. -/
theorem upBlock_at {hn : FVec Ideal S256x1024 .bf16} {arg8 : Memref sig .tc .vmem S1024x5632 .bf16} {harg8 : arg8.IsWhole} {x6 : Vec Ideal S1024x5632 .bf16}
    {U : Fin 256 → Fin 5632 → EReal} (hU : ∀ r n, ∑ k, hn (ix2 r k) * x6 (ix2 k n) = U r n) {a : ℕ} (ha : a + 256 ≤ 5632) {ia} (r c : Fin 256) :
    upBlock hn arg8 harg8 x6 a ia (ix2 r c) = U r ⟨a + c.val, by omega⟩ := by
  refine (up_at _ _ r c).trans ?_
  rw [← hU]
  refine Finset.sum_congr rfl fun k _ => congrArg _ ?_
  refine (cols_at harg8 x6 0 a (by omega) ha k c).trans ?_
  congr 2
  exact Fin.ext (Nat.zero_add _)

/-- The convolution of the block of channels starting at `a`, from the staged rows. -/
theorem conv_run {W : Weights} {U : Fin 256 → Fin 5632 → EReal} {car : Fin 8 → Fin 5632 → EReal}
    {hn : FVec Ideal S256x1024 .bf16} {arg8 : Memref sig .tc .vmem S1024x5632 .bf16} {harg8 : arg8.IsWhole} {x6 : Vec Ideal S1024x5632 .bf16}
    {arg9 : Memref sig .tc .vmem S3x5632 .f32} {harg9 : arg9.IsWhole} {x7 : Vec Ideal S3x5632 .f32}
    {arg10 : Memref sig .tc .vmem S1x5632 .f32} {harg10 : arg10.IsWhole} {x8 : Vec Ideal S1x5632 .f32}
    (hU : ∀ r n, ∑ k, hn (ix2 r k) * x6 (ix2 k n) = U r n) (hcw : ∀ k n, x7 (ix2 k n) = W.cw k n) (hcb : ∀ n, x8 (ix2 0 n) = W.cb n)
    {κ : Kind} {sp : Space} {v : View sig κ sp S4x2x792x128 .f32} {s : ℕ} {a : ℕ} (ha : a + 256 ≤ 5632) {ia ib i0 i1 i2}
    {hp0 sp0 hc0 sc0 hp1 sp1 hc1 sc1 b10 b20 b11 b21} {w0 w1 : Vec Ideal S8x128 .f32} {L0 L1 : List (View.Piece (Elt Ideal) S4x2x792x128 .f32)}
    (hw0 : ∀ (i : Fin 8) (c : Fin 128), w0 (ix2 i c) = car i ⟨a + c.val, by omega⟩)
    (hw1 : ∀ (i : Fin 8) (c : Fin 128), w1 (ix2 i c) = car i ⟨a + (128 + c.val), by omega⟩) (r c : Fin 256) :
    k0_pay20 (F := Ideal) (upBlock hn arg8 harg8 x6 a ia)
      (k0_pay12 (v.readCov (⟨(⟨⟨![s, 0, 24, 0], S1x1x256x128.size, ![1, 1, 3, 1], hp0⟩, sp0⟩ : Rect S4x2x792x128), k0_pay11 (upBlock hn arg8 harg8 x6 a ia)⟩ ::
        ⟨(⟨⟨![s, 0, 0, 0], S1x1x8x128.size, ![1, 1, 3, 1], hc0⟩, sc0⟩ : Rect S4x2x792x128), k0_pay10 w0⟩ :: L0)
        (⟨![s, 0, 21, 0], S1x1x256x128.size, ![1, 1, 3, 1], b10⟩ : LoadRect S4x2x792x128)))
      (k0_pay12 (v.readCov (⟨(⟨⟨![s, 0, 24, 0], S1x1x256x128.size, ![1, 1, 3, 1], hp0⟩, sp0⟩ : Rect S4x2x792x128), k0_pay11 (upBlock hn arg8 harg8 x6 a ia)⟩ ::
        ⟨(⟨⟨![s, 0, 0, 0], S1x1x8x128.size, ![1, 1, 3, 1], hc0⟩, sc0⟩ : Rect S4x2x792x128), k0_pay10 w0⟩ :: L0)
        (⟨![s, 0, 18, 0], S1x1x256x128.size, ![1, 1, 3, 1], b20⟩ : LoadRect S4x2x792x128)))
      (k0_pay12 (v.readCov (⟨(⟨⟨![s, 1, 24, 0], S1x1x256x128.size, ![1, 1, 3, 1], hp1⟩, sp1⟩ : Rect S4x2x792x128), k0_pay15 (upBlock hn arg8 harg8 x6 a ia)⟩ ::
        ⟨(⟨⟨![s, 1, 0, 0], S1x1x8x128.size, ![1, 1, 3, 1], hc1⟩, sc1⟩ : Rect S4x2x792x128), k0_pay10 w1⟩ :: L1)
        (⟨![s, 1, 21, 0], S1x1x256x128.size, ![1, 1, 3, 1], b11⟩ : LoadRect S4x2x792x128)))
      (k0_pay12 (v.readCov (⟨(⟨⟨![s, 1, 24, 0], S1x1x256x128.size, ![1, 1, 3, 1], hp1⟩, sp1⟩ : Rect S4x2x792x128), k0_pay15 (upBlock hn arg8 harg8 x6 a ia)⟩ ::
        ⟨(⟨⟨![s, 1, 0, 0], S1x1x8x128.size, ![1, 1, 3, 1], hc1⟩, sc1⟩ : Rect S4x2x792x128), k0_pay10 w1⟩ :: L1)
        (⟨![s, 1, 18, 0], S1x1x256x128.size, ![1, 1, 3, 1], b21⟩ : LoadRect S4x2x792x128)))
      (View.readAt (Elt Ideal) arg10.view (Rect.unit (s := S1x5632) ![0, a] S1x256.size ib).toLoadRect (harg10.unread x8))
      (View.readAt (Elt Ideal) arg9.view (Rect.unit (s := S3x5632) ![0, a] S1x256.size i0).toLoadRect (harg9.unread x7))
      (View.readAt (Elt Ideal) arg9.view (Rect.unit (s := S3x5632) ![1, a] S1x256.size i1).toLoadRect (harg9.unread x7))
      (View.readAt (Elt Ideal) arg9.view (Rect.unit (s := S3x5632) ![2, a] S1x256.size i2).toLoadRect (harg9.unread x7)) (ix2 r c)
    = conv W (tap U car 2 r) (tap U car 1 r) (U r) ⟨a + c.val, by omega⟩ := by
  have hu := upBlock_at (harg8 := harg8) hU ha (ia := ia)
  refine conv_block W U car a ha _ _ _ _ _ _ _ _ _ hu ?_ ?_ ?_ ?_ ?_ ?_ ?_ ?_ r c
  · exact fun r c => stage_tap v rfl (by omega) _ _ _ U car _ c (fun r => (lane_zero _ r c).trans (hu r _)) (fun i => (hist_at w0 i c).trans (hw0 i c)) r
  · exact fun r c => stage_tap v rfl (by omega) _ _ _ U car _ c (fun r => (lane_zero _ r c).trans (hu r _)) (fun i => (hist_at w0 i c).trans (hw0 i c)) r
  · exact fun r c => stage_tap v rfl (by omega) _ _ _ U car _ c (fun r => (lane_one _ r c).trans (hu r _)) (fun i => (hist_at w1 i c).trans (hw1 i c)) r
  · exact fun r c => stage_tap v rfl (by omega) _ _ _ U car _ c (fun r => (lane_one _ r c).trans (hu r _)) (fun i => (hist_at w1 i c).trans (hw1 i c)) r
  · exact fun c => (cols_at harg10 x8 0 a (by omega) ha 0 c).trans (hcb _)
  · exact fun c => (cols_at harg9 x7 0 a (by omega) ha 0 c).trans (hcw 0 _)
  · exact fun c => (cols_at harg9 x7 1 a (by omega) ha 0 c).trans (hcw 1 _)
  · exact fun c => (cols_at harg9 x7 2 a (by omega) ha 0 c).trans (hcw 2 _)

/-- The gated activation, its two convolutions known at the place read. -/
theorem gated_eq {G V : FVec Ideal S256x256 .f32} {u : Fin 5632 → EReal} {a : ℕ} (ha : a + 256 ≤ 2816) {r c : Fin 256}
    (hG : G (ix2 r c) = u ⟨a + c.val, by omega⟩) (hV : V (ix2 r c) = u ⟨2816 + a + c.val, by omega⟩) :
    gated G V (ix2 r c) = act u ⟨a + c.val, by omega⟩ := by
  rw [gated_at, hG, hV]
  unfold act
  congr 2
  exact Fin.ext (Nat.add_assoc _ _ _)

end Cert.KernelIdeal.Piece

end
-- ==== Proof.Half.lean ====
/-
  The rows of one grid point's block, from the blocks the point is given: the layer's rows (`hB`) and the history buffer read back through the column blocks written over it.
-/
module

public import proofs.«01_k».proof.Proof.Piece

@[expose] public section

set_option maxRecDepth 16384

noncomputable section

namespace Cert.KernelIdeal.Half

open Idealize.ShloMosaic Idealize.ShloMosaic.TcCoe Idealize.SL.Sem
open Cert.KernelIdeal Cert.KernelIdeal.Gen Cert.Ffn Cert.KernelIdeal.Pay Cert.KernelIdeal.Stage Cert.KernelIdeal.Piece

/-- Row `R` of the block after the output projection. -/
def hB (W : Weights) (x0 : Vec Ideal S1x512x1024 .f32) (x1 x2 : Vec Ideal S1x256x512 .i32) (R : Fin 512) : Fin 1024 → EReal :=
  proj W (fun n => x0 (ix3 0 R n)) (fun k => half (x1 (ix3 0 ⟨R.val / 2, by omega⟩ k)) (R.val % 2))
    (fun k => half (x2 (ix3 0 ⟨R.val / 2, by omega⟩ k)) (R.val % 2))

/-- Row `r` of the half block that starts at row `p`. -/
def at' (p : ℕ) (hp : p + 256 ≤ 512) (r : Fin 256) : Fin 512 := ⟨p + r.val, by omega⟩

section
variable {arg2 : Memref sig .tc .vmem S1x512x1024 .f32} {harg2 : arg2.IsWhole} {x0 : Vec Ideal S1x512x1024 .f32}
  {arg3 : Memref sig .tc .vmem S1x256x512 .i32} {harg3 : arg3.IsWhole} {x1 : Vec Ideal S1x256x512 .i32}
  {arg4 : Memref sig .tc .vmem S1x256x512 .i32} {harg4 : arg4.IsWhole} {x2 : Vec Ideal S1x256x512 .i32}
  {arg6 : Memref sig .tc .vmem S1024x1024 .bf16} {harg6 : arg6.IsWhole} {x4 : Vec Ideal S1024x1024 .bf16}
  {arg7 : Memref sig .tc .vmem S1x1024 .f32} {harg7 : arg7.IsWhole} {x5 : Vec Ideal S1x1024 .f32}

/-- The first payload of a half block is its rows after the output projection. -/
theorem rows_eq {W : Weights} (hwo : ∀ k n, x4 (ix2 k n) = W.wo k n) {p q : ℕ} (hp : p + 256 ≤ 512) (hq : p = 2 * q) {i0 i1 i2 i3 i4}
    (r : Fin 256) (n : Fin 1024) :
    k0_pay3 (F := Ideal)
      (View.readAt (Elt Ideal) arg2.view (Rect.unit (s := S1x512x1024) ![0, p, 0] S1x256x1024.size i0).toLoadRect (harg2.unread x0))
      (View.readAt (Elt Ideal) arg3.view (Rect.unit (s := S1x256x512) ![0, q, 0] S1x128x512.size i1).toLoadRect (harg3.unread x1))
      (View.readAt (Elt Ideal) arg6.view (Rect.unit (s := S1024x1024) ![0, 0] S512x1024.size i2).toLoadRect (harg6.unread x4))
      (View.readAt (Elt Ideal) arg4.view (Rect.unit (s := S1x256x512) ![0, q, 0] S1x128x512.size i3).toLoadRect (harg4.unread x2))
      (View.readAt (Elt Ideal) arg6.view (Rect.unit (s := S1024x1024) ![512, 0] S512x1024.size i4).toLoadRect (harg6.unread x4)) (ix2 r n)
    = hB W x0 x1 x2 (at' p hp r) n := by
  have hr : (⟨q + r.val / 2, by omega⟩ : Fin 256) = ⟨(at' p hp r).val / 2, by unfold at'; omega⟩ :=
    Fin.ext (show q + r.val / 2 = (p + r.val) / 2 by omega)
  have hm : r.val % 2 = (at' p hp r).val % 2 := show r.val % 2 = (p + r.val) % 2 by omega
  rw [proj_at, add_assoc]
  unfold hB proj
  refine congrArg₂ (· + ·) ?_ (congrArg₂ (· + ·) (Finset.sum_congr rfl fun k _ => congrArg₂ (· * ·) ?_ ?_)
    (Finset.sum_congr rfl fun k _ => congrArg₂ (· * ·) ?_ ?_))
  · refine (rows_at harg2 x0 p 0 hp (by omega) r n).trans ?_
    congr 2; exact Fin.ext (Nat.zero_add _)
  · rw [unpack_at, ← hm, ← hr]
    refine congrArg (fun w => half w _) ((rows_at harg3 x1 q 0 (by omega) (by omega) _ k).trans ?_)
    congr 2; exact Fin.ext (Nat.zero_add _)
  · refine (cols_at harg6 x4 0 0 (by omega) (by omega) k n).trans ((congrArg x4 ?_).trans (hwo _ n))
    congr 1 <;> exact Fin.ext (Nat.zero_add _)
  · rw [unpack_at, ← hm, ← hr]
    refine congrArg (fun w => half w _) ((rows_at harg4 x2 q 0 (by omega) (by omega) _ k).trans ?_)
    congr 2; exact Fin.ext (Nat.zero_add _)
  · refine (cols_at harg6 x4 512 0 (by omega) (by omega) k n).trans ((congrArg x4 ?_).trans (hwo _ n))
    congr 1; exact Fin.ext (Nat.zero_add _)

/-- Normalised and projected up, the rows `h` of a half block are `pre`. -/
theorem up_eq {W : Weights} (hln : ∀ n, x5 (ix2 0 n) = W.lnf n) {x6 : Vec Ideal S1024x5632 .bf16} (hup : ∀ k n, x6 (ix2 k n) = W.wup k n)
    {H : FVec Ideal S256x1024 .f32} {h : Fin 256 → Fin 1024 → EReal} (hH : ∀ r n, H (ix2 r n) = h r n) {i5} (r : Fin 256) (n : Fin 5632) :
    ∑ k, k0_pay7 (F := Ideal) H
      (View.readAt (Elt Ideal) arg7.view (Rect.unit (s := S1x1024) ![0, 0] S1x1024.size i5).toLoadRect (harg7.unread x5)) (ix2 r k) * x6 (ix2 k n)
    = pre W (h r) n := by
  unfold pre
  refine Finset.sum_congr rfl fun k _ => congrArg₂ (· * ·) ?_ (hup k n)
  rw [norm_at]
  simp only [hH]
  congr 1
  funext k
  refine (cols_at harg7 x5 0 0 (by omega) (by omega) 0 k).trans ((congrArg x5 ?_).trans (hln k))
  congr 1; exact Fin.ext (Nat.zero_add _)

end

section
variable {κ : Kind} {sp : Space} {v : View sig κ sp S8x5632 .f32}

/-- History read past a column block written elsewhere. -/
theorem hist_skip {a b : ℕ} {hp hb} {P : S8x256.Idx → EReal} {L : List (View.Piece (Elt Ideal) S8x5632 .f32)} {i : Fin 8} {c : Fin 128} {y : EReal}
    (h : v.readCov L (Rect.unit (s := S8x5632) ![0, b] S8x128.size hb).toLoadRect (ix2 i c) = y) (hab : a + 256 ≤ b ∨ b + 128 ≤ a) :
    v.readCov (⟨Rect.unit (s := S8x5632) ![0, a] S8x256.size hp, P⟩ :: L) (Rect.unit (s := S8x5632) ![0, b] S8x128.size hb).toLoadRect (ix2 i c) = y :=
  (congrFun (carry_skip v hab P L) _).trans h

/-- The rows a half block leaves for the next, at a block of channels. -/
theorem kept_rows {hn : FVec Ideal S256x1024 .bf16} {arg8 : Memref sig .tc .vmem S1024x5632 .bf16} {harg8 : arg8.IsWhole} {x6 : Vec Ideal S1024x5632 .bf16}
    {U : Fin 256 → Fin 5632 → EReal} (hU : ∀ r n, ∑ k, hn (ix2 r k) * x6 (ix2 k n) = U r n) {a : ℕ} (ha : a + 256 ≤ 5632) {ia} (i : Fin 8) (c : Fin 256) :
    k0_pay19 (F := Ideal) (k0_pay18 (upBlock hn arg8 harg8 x6 a ia)) (ix2 i c) = U ⟨248 + i.val, by omega⟩ ⟨a + c.val, by omega⟩ := by
  refine Eq.trans ?_ ((last_rows (upBlock hn arg8 harg8 x6 a ia) i c).trans (upBlock_at (harg8 := harg8) (ia := ia) hU ha _ _))
  generalize k0_pay18 (F := Ideal) (upBlock hn arg8 harg8 x6 a ia) = u
  pointwise [k0_pay19]

/-- History read in the first lane tile of the column block written last. -/
theorem hist_hit0 {hn : FVec Ideal S256x1024 .bf16} {arg8 : Memref sig .tc .vmem S1024x5632 .bf16} {harg8 : arg8.IsWhole} {x6 : Vec Ideal S1024x5632 .bf16}
    {U : Fin 256 → Fin 5632 → EReal} (hU : ∀ r n, ∑ k, hn (ix2 r k) * x6 (ix2 k n) = U r n) {a : ℕ} (ha : a + 256 ≤ 5632) {ia}
    {hp hb} {L : List (View.Piece (Elt Ideal) S8x5632 .f32)} (i : Fin 8) (c : Fin 128) :
    v.readCov (⟨Rect.unit (s := S8x5632) ![0, a] S8x256.size hp, k0_pay19 (k0_pay18 (upBlock hn arg8 harg8 x6 a ia))⟩ :: L)
      (Rect.unit (s := S8x5632) ![0, a] S8x128.size hb).toLoadRect (ix2 i c)
    = U ⟨248 + i.val, by omega⟩ ⟨a + c.val, by omega⟩ := by
  refine (carry_read v (by omega) (by omega) _ L i c).trans ((kept_rows hU ha i _).trans ?_)
  congr 1
  exact Fin.ext (show a + (a - a + c.val) = a + c.val by omega)

/-- History read in the second lane tile of the column block written last. -/
theorem hist_hit1 {hn : FVec Ideal S256x1024 .bf16} {arg8 : Memref sig .tc .vmem S1024x5632 .bf16} {harg8 : arg8.IsWhole} {x6 : Vec Ideal S1024x5632 .bf16}
    {U : Fin 256 → Fin 5632 → EReal} (hU : ∀ r n, ∑ k, hn (ix2 r k) * x6 (ix2 k n) = U r n) {a : ℕ} (ha : a + 256 ≤ 5632) {ia}
    {hp hb} {L : List (View.Piece (Elt Ideal) S8x5632 .f32)} (i : Fin 8) (c : Fin 128) :
    v.readCov (⟨Rect.unit (s := S8x5632) ![0, a] S8x256.size hp, k0_pay19 (k0_pay18 (upBlock hn arg8 harg8 x6 a ia))⟩ :: L)
      (Rect.unit (s := S8x5632) ![0, a + 128] S8x128.size hb).toLoadRect (ix2 i c)
    = U ⟨248 + i.val, by omega⟩ ⟨a + (128 + c.val), by omega⟩ := by
  refine (carry_read v (by omega) (by omega) _ L i c).trans ((kept_rows hU ha i _).trans ?_)
  congr 1
  exact Fin.ext (show a + (a + 128 - a + c.val) = a + (128 + c.val) by omega)

/-- History read where the whole buffer was zeroed. -/
theorem hist_zero {b : ℕ} {hp hb} {L : List (View.Piece (Elt Ideal) S8x5632 .f32)} (hb' : b + 128 ≤ 5632) (i : Fin 8) (c : Fin 128) :
    v.readCov (⟨Rect.unit (s := S8x5632) ![0, 0] S8x5632.size hp, k0_pay2 (F := Ideal)⟩ :: L)
      (Rect.unit (s := S8x5632) ![0, b] S8x128.size hb).toLoadRect (ix2 i c) = 0 := by
  refine (read_at v (Rect.unit (s := S8x5632) ![0, 0] S8x5632.size hp) (k0_pay2 (F := Ideal)) L
    (Rect.unit (s := S8x5632) ![0, b] S8x128.size hb).toLoadRect (ix2 i c) (ix2 i ⟨b + c.val, by omega⟩) ?_).trans ?_
  · intro x
    match x with
    | ⟨0, _⟩ => rfl
    | ⟨1, _⟩ => show b + 1 * c.val = 0 + 1 * (b + c.val); omega
  · pointwise [k0_pay2]

end

/-- The rows left for the next half block, as history. -/
def kept (U : Fin 256 → Fin 5632 → EReal) (i : Fin 8) (n : Fin 5632) : EReal := U ⟨248 + i.val, by omega⟩ n

/-- The convolved rows of a half block over its history. -/
def cv (W : Weights) (U : Fin 256 → Fin 5632 → EReal) (car : Fin 8 → Fin 5632 → EReal) (r : Fin 256) : Fin 5632 → EReal :=
  conv W (tap U car 2 r) (tap U car 1 r) (U r)

/-- The activations of the block: the first half's rows `u0`, then the second's `u1`. -/
def acts (u0 u1 : Fin 256 → Fin 5632 → EReal) (y : S512x2816.Idx) : EReal :=
  if h : (y 0).val < 256 then act (u0 ⟨(y 0).val, h⟩) (y 1)
  else act (u1 ⟨(y 0).val - 256, by have : (y 0).val < 512 := (y 0).isLt; omega⟩) (y 1)

/-- A block of activations lies within the activation buffer. -/
theorem acts_inb {p a : ℕ} (hp : p + 256 ≤ 512) (ha : a + 256 ≤ 2816) (d : Fin 2) : ![p, a] d + S256x256.size d ≤ S512x2816.size d :=
  match d with
  | ⟨0, _⟩ => hp
  | ⟨1, _⟩ => ha

/-- A store among the first half's rows holds `acts`. -/
theorem acts_lo {u0 u1 : Fin 256 → Fin 5632 → EReal} {a : ℕ} (ha : a + 256 ≤ 2816) {w : S256x256.Idx → EReal}
    (hw : ∀ r c : Fin 256, w (ix2 r c) = act (u0 r) ⟨a + c.val, by omega⟩) (x : S256x256.Idx) :
    w x = acts u0 u1 ((Rect.unit (s := S512x2816) ![0, a] S256x256.size (acts_inb (by omega) ha)).emb x) := by
  have e0 : ((Rect.unit (s := S512x2816) ![0, a] S256x256.size (acts_inb (by omega) ha)).emb x 0).val = (x 0).val := show 0 + 1 * (x 0).val = _ by omega
  have e1 : ((Rect.unit (s := S512x2816) ![0, a] S256x256.size (acts_inb (by omega) ha)).emb x 1).val = a + (x 1).val := show a + 1 * (x 1).val = _ by omega
  have hx : x = ix2 (x 0) (x 1) := funext fun d => match d with | ⟨0, _⟩ => rfl | ⟨1, _⟩ => rfl
  have hlt : (x 0).val < 256 := (x 0).isLt
  refine (congrArg w hx).trans ((hw (x 0) (x 1)).trans ?_)
  unfold acts
  rw [dif_pos (by omega)]
  congr 1
  · exact congrArg u0 (Fin.ext e0.symm)
  · exact Fin.ext e1.symm

/-- A store among the second half's rows holds `acts`. -/
theorem acts_hi {u0 u1 : Fin 256 → Fin 5632 → EReal} {a : ℕ} (ha : a + 256 ≤ 2816) {w : S256x256.Idx → EReal}
    (hw : ∀ r c : Fin 256, w (ix2 r c) = act (u1 r) ⟨a + c.val, by omega⟩) (x : S256x256.Idx) :
    w x = acts u0 u1 ((Rect.unit (s := S512x2816) ![256, a] S256x256.size (acts_inb (by omega) ha)).emb x) := by
  have e0 : ((Rect.unit (s := S512x2816) ![256, a] S256x256.size (acts_inb (by omega) ha)).emb x 0).val = 256 + (x 0).val := show 256 + 1 * (x 0).val = _ by omega
  have e1 : ((Rect.unit (s := S512x2816) ![256, a] S256x256.size (acts_inb (by omega) ha)).emb x 1).val = a + (x 1).val := show a + 1 * (x 1).val = _ by omega
  have hx : x = ix2 (x 0) (x 1) := funext fun d => match d with | ⟨0, _⟩ => rfl | ⟨1, _⟩ => rfl
  refine (congrArg w hx).trans ((hw (x 0) (x 1)).trans ?_)
  unfold acts
  rw [dif_neg (by omega)]
  congr 1
  · exact congrArg u1 (Fin.ext (by show (x 0).val = _ - 256; omega))
  · exact Fin.ext e1.symm

end Cert.KernelIdeal.Half

end
-- ==== Proof.Tail.lean ====
/-
  The end of a grid point: from the activations of the block to the rows it stores, and the two half blocks put together.
-/
module

public import proofs.«01_k».proof.Proof.Half

@[expose] public section

set_option maxRecDepth 16384

noncomputable section

namespace Cert.KernelIdeal.Tail

open Idealize.ShloMosaic Idealize.ShloMosaic.TcCoe Idealize.SL.Sem
open Cert.KernelIdeal Cert.KernelIdeal.Gen Cert.Ffn Cert.KernelIdeal.Pay Cert.KernelIdeal.Stage Cert.KernelIdeal.Piece Cert.KernelIdeal.Half

/-- A buffer held whole, loaded whole. -/
theorem whole_at {e : EltTy} {A B : ℕ} {m : Memref sig .tc .vmem ⟨2, ![A, B]⟩ e} (hm : m.IsWhole) (x : Vec Ideal ⟨2, ![A, B]⟩ e) {h}
    (k : Fin A) (n : Fin B) :
    View.readAt (Elt Ideal) m.view (Rect.unit (s := ⟨2, ![A, B]⟩) ![0, 0] (⟨2, ![A, B]⟩ : Shape).size h).toLoadRect (hm.unread x) (ix2 k n)
    = x (ix2 k n) := by
  refine (cols_at hm x 0 0 (by omega) (by omega) k n).trans (congrArg x ?_)
  congr 1 <;> exact Fin.ext (Nat.zero_add _)

/-- The activations of the first half block, read back from the pieces stored. -/
theorem acts_read_lo {κ : Kind} {sp : Space} {v : View sig κ sp S512x2816 .bf16} {L : List (View.Piece (Elt Ideal) S512x2816 .bf16)}
    {u0 u1 : Fin 256 → Fin 5632 → EReal} (hL : View.PiecesOf (acts u0 u1) L) (hc : ∀ y, ∃ p ∈ L, y ∈ p.1.set) {h} (r : Fin 256) (l : Fin 2816) :
    v.readCov L (Rect.unit (s := S512x2816) ![0, 0] S256x2816.size h).toLoadRect (ix2 r l) = act (u0 r) l := by
  rw [View.readCov_eq_canon']
  refine (View.canon_apply_of_pieces (acts u0 u1) L hL.mem _ (hc _)).trans ?_
  have e0 : ((Rect.unit (s := S512x2816) ![0, 0] S256x2816.size h).toLoadRect.idx (ix2 r l) 0).val = r.val := show 0 + 1 * r.val = _ by omega
  have e1 : ((Rect.unit (s := S512x2816) ![0, 0] S256x2816.size h).toLoadRect.idx (ix2 r l) 1).val = l.val := show 0 + 1 * l.val = _ by omega
  unfold acts
  rw [dif_pos (by omega)]
  congr 1
  · exact congrArg u0 (Fin.ext e0)
  · exact Fin.ext e1

/-- The activations of the second half block, read back from the pieces stored. -/
theorem acts_read_hi {κ : Kind} {sp : Space} {v : View sig κ sp S512x2816 .bf16} {L : List (View.Piece (Elt Ideal) S512x2816 .bf16)}
    {u0 u1 : Fin 256 → Fin 5632 → EReal} (hL : View.PiecesOf (acts u0 u1) L) (hc : ∀ y, ∃ p ∈ L, y ∈ p.1.set) {h} (r : Fin 256) (l : Fin 2816) :
    v.readCov L (Rect.unit (s := S512x2816) ![256, 0] S256x2816.size h).toLoadRect (ix2 r l) = act (u1 r) l := by
  rw [View.readCov_eq_canon']
  refine (View.canon_apply_of_pieces (acts u0 u1) L hL.mem _ (hc _)).trans ?_
  have e0 : ((Rect.unit (s := S512x2816) ![256, 0] S256x2816.size h).toLoadRect.idx (ix2 r l) 0).val = 256 + r.val := show 256 + 1 * r.val = _ by omega
  have e1 : ((Rect.unit (s := S512x2816) ![256, 0] S256x2816.size h).toLoadRect.idx (ix2 r l) 1).val = l.val := show 0 + 1 * l.val = _ by omega
  unfold acts
  rw [dif_neg (by omega)]
  congr 1
  · exact congrArg u1 (Fin.ext (by show _ - 256 = r.val; omega))
  · exact Fin.ext e1

/-- The rows a half block stores. -/
theorem rows_out {W : Weights} {arg11 : Memref sig .tc .vmem S2816x1024 .bf16} {harg11 : arg11.IsWhole} {x9 : Vec Ideal S2816x1024 .bf16}
    {arg12 : Memref sig .tc .vmem S1x1024 .f32} {harg12 : arg12.IsWhole} {x10 : Vec Ideal S1x1024 .f32}
    {arg13 : Memref sig .tc .vmem S1024x1024 .bf16} {harg13 : arg13.IsWhole} {x11 : Vec Ideal S1024x1024 .bf16}
    {arg5 : Memref sig .tc .vmem S1x512x256 .f32} {harg5 : arg5.IsWhole} {x3 : Vec Ideal S1x512x256 .f32}
    {arg14 : Memref sig .tc .vmem S256x1024 .bf16} {harg14 : arg14.IsWhole} {x12 : Vec Ideal S256x1024 .bf16}
    {arg15 : Memref sig .tc .vmem S1x1024 .f32} {harg15 : arg15.IsWhole} {x13 : Vec Ideal S1x1024 .f32}
    (h9 : ∀ k n, x9 (ix2 k n) = W.wdn k n) (h10 : ∀ n, x10 (ix2 0 n) = W.lnp n) (h11 : ∀ k n, x11 (ix2 k n) = W.wg k n)
    (h12 : ∀ k n, x12 (ix2 k n) = W.wple k n) (h13 : ∀ n, x13 (ix2 0 n) = W.lnl n)
    {H : FVec Ideal S256x1024 .f32} {h : Fin 256 → Fin 1024 → EReal} (hH : ∀ r n, H (ix2 r n) = h r n)
    {A : Vec Ideal S256x2816 .bf16} {u : Fin 256 → Fin 5632 → EReal} (hA : ∀ r l, A (ix2 r l) = act (u r) l)
    {p : ℕ} (hp : p + 256 ≤ 512) {i9 i10 i11 i3 i12 i13} (r : Fin 256) (n : Fin 1024) :
    tail (k0_pay471 (F := Ideal) H A
        (View.readAt (Elt Ideal) arg11.view (Rect.unit (s := S2816x1024) ![0, 0] S2816x1024.size i9).toLoadRect (harg11.unread x9)))
      (View.readAt (Elt Ideal) arg12.view (Rect.unit (s := S1x1024) ![0, 0] S1x1024.size i10).toLoadRect (harg12.unread x10))
      (View.readAt (Elt Ideal) arg13.view (Rect.unit (s := S1024x1024) ![0, 0] S1024x1024.size i11).toLoadRect (harg13.unread x11))
      (View.readAt (Elt Ideal) arg5.view (Rect.unit (s := S1x512x256) ![0, p, 0] S1x256x256.size i3).toLoadRect (harg5.unread x3))
      (View.readAt (Elt Ideal) arg14.view (Rect.unit (s := S256x1024) ![0, 0] S256x1024.size i12).toLoadRect (harg14.unread x12))
      (View.readAt (Elt Ideal) arg15.view (Rect.unit (s := S1x1024) ![0, 0] S1x1024.size i13).toLoadRect (harg15.unread x13)) (ix3 0 r n)
    = rms (ple W (ffn W (h r) (u r)) (fun k => x3 (ix3 0 (at' p hp r) k))) W.lnl n := by
  have e9 : ∀ k n, View.readAt (Elt Ideal) arg11.view (Rect.unit (s := S2816x1024) ![0, 0] S2816x1024.size i9).toLoadRect (harg11.unread x9) (ix2 k n)
      = W.wdn k n := fun k n => (whole_at harg11 x9 k n).trans (h9 k n)
  have e10 : ∀ n, View.readAt (Elt Ideal) arg12.view (Rect.unit (s := S1x1024) ![0, 0] S1x1024.size i10).toLoadRect (harg12.unread x10) (ix2 0 n)
      = W.lnp n := fun n => (whole_at harg12 x10 0 n).trans (h10 n)
  have e11 : ∀ k n, View.readAt (Elt Ideal) arg13.view (Rect.unit (s := S1024x1024) ![0, 0] S1024x1024.size i11).toLoadRect (harg13.unread x11) (ix2 k n)
      = W.wg k n := fun k n => (whole_at harg13 x11 k n).trans (h11 k n)
  have e12 : ∀ k n, View.readAt (Elt Ideal) arg14.view (Rect.unit (s := S256x1024) ![0, 0] S256x1024.size i12).toLoadRect (harg14.unread x12) (ix2 k n)
      = W.wple k n := fun k n => (whole_at harg14 x12 k n).trans (h12 k n)
  have e13 : ∀ n, View.readAt (Elt Ideal) arg15.view (Rect.unit (s := S1x1024) ![0, 0] S1x1024.size i13).toLoadRect (harg15.unread x13) (ix2 0 n)
      = W.lnl n := fun n => (whole_at harg15 x13 0 n).trans (h13 n)
  have e3 : ∀ k, View.readAt (Elt Ideal) arg5.view (Rect.unit (s := S1x512x256) ![0, p, 0] S1x256x256.size i3).toLoadRect (harg5.unread x3) (ix3 0 r k)
      = x3 (ix3 0 (at' p hp r) k) := fun k => (rows_at harg5 x3 p 0 hp (by omega) r k).trans
        (congrArg x3 (congrArg (ix3 0 (at' p hp r)) (Fin.ext (Nat.zero_add _))))
  generalize View.readAt (Elt Ideal) arg11.view _ _ = X9 at *
  generalize View.readAt (Elt Ideal) arg12.view _ _ = X10 at *
  generalize View.readAt (Elt Ideal) arg13.view _ _ = X11 at *
  generalize View.readAt (Elt Ideal) arg5.view _ _ = X3 at *
  generalize View.readAt (Elt Ideal) arg14.view _ _ = X12 at *
  generalize View.readAt (Elt Ideal) arg15.view _ _ = X13 at *
  rw [tail_at]
  have ef : ∀ n, k0_pay471 (F := Ideal) H A X9 (ix2 r n) = ffn W (h r) (u r) n := fun n => by
    rw [down_at, hH]; unfold ffn; simp only [hA, e9]
  simp only [ef, e10, e11, e12, e13, e3]
  rfl

/-- The up projections `k` rows back from row `R` of the block whose rows are `h`: before the block, its history. -/
def backB (W : Weights) (h : Fin 512 → Fin 1024 → EReal) (car : Fin 8 → Fin 5632 → EReal) (k : ℕ) (R : Fin 512) (n : Fin 5632) : EReal :=
  if hk : k ≤ R.val then pre W (h ⟨R.val - k, by omega⟩) n else car ⟨8 + R.val - k, by omega⟩ n

/-- The first half block's convolved rows. -/
theorem cv_lo (W : Weights) (h : Fin 512 → Fin 1024 → EReal) (car : Fin 8 → Fin 5632 → EReal) (r : Fin 256) :
    cv W (fun r => pre W (h (at' 0 (by omega) r))) car r
    = conv W (backB W h car 2 (at' 0 (by omega) r)) (backB W h car 1 (at' 0 (by omega) r)) (pre W (h (at' 0 (by omega) r))) := by
  have e : ∀ k, tap (fun r => pre W (h (at' 0 (by omega) r))) car k r = backB W h car k (at' 0 (by omega) r) := fun k => by
    funext n
    unfold tap backB
    by_cases hk : k ≤ r.val
    · rw [dif_pos hk, dif_pos (by show k ≤ 0 + r.val; omega)]
      exact congrArg (fun R => pre W (h R) n) (Fin.ext (show 0 + (r.val - k) = 0 + r.val - k by omega))
    · rw [dif_neg hk, dif_neg (by show ¬ k ≤ 0 + r.val; omega)]
      exact congrArg (fun R => car R n) (Fin.ext (show 8 + r.val - k = 8 + (0 + r.val) - k by omega))
  unfold cv
  rw [e, e]

/-- The second half block's convolved rows: its history is the first half block's last rows. -/
theorem cv_hi (W : Weights) (h : Fin 512 → Fin 1024 → EReal) (car : Fin 8 → Fin 5632 → EReal) (r : Fin 256) :
    cv W (fun r => pre W (h (at' 256 (by omega) r))) (kept fun r => pre W (h (at' 0 (by omega) r))) r
    = conv W (backB W h car 2 (at' 256 (by omega) r)) (backB W h car 1 (at' 256 (by omega) r)) (pre W (h (at' 256 (by omega) r))) := by
  have e : ∀ k ≤ 8, tap (fun r => pre W (h (at' 256 (by omega) r))) (kept fun r => pre W (h (at' 0 (by omega) r))) k r
      = backB W h car k (at' 256 (by omega) r) := fun k h8 => by
    funext n
    unfold tap backB kept
    rw [dif_pos (show k ≤ (at' 256 (by omega) r).val by show k ≤ 256 + r.val; omega)]
    by_cases hk : k ≤ r.val
    · rw [dif_pos hk]
      exact congrArg (fun R => pre W (h R) n) (Fin.ext (show 256 + (r.val - k) = 256 + r.val - k by omega))
    · rw [dif_neg hk]
      exact congrArg (fun R => pre W (h R) n) (Fin.ext (show 0 + (248 + (8 + r.val - k)) = 256 + r.val - k by omega))
  unfold cv
  rw [e 1 (by omega), e 2 (by omega)]

/-- A buffer read where the piece written last holds it. -/
theorem canon_at {s : Shape} {e : EltTy} (r : Rect s) (w : r.shape.Idx → Elt Ideal e) (L : List (View.Piece (Elt Ideal) s e)) (y : s.Idx)
    (x : r.shape.Idx) (h : ∀ a, (y a).val = r.off a + r.stride a * (x a).val) : View.canon (⟨r, w⟩ :: L) y = w x := by
  have e : y = r.emb x := funext fun a => Fin.ext (h a)
  rw [e]
  exact View.canon_cons_emb r w L x

/-- A buffer read outside the piece written last, on axis `a`. -/
theorem canon_off {s : Shape} {e : EltTy} (r : Rect s) (w : r.shape.Idx → Elt Ideal e) (L : List (View.Piece (Elt Ideal) s e)) (y : s.Idx)
    (a : Fin s.rank) (h : ∀ q < r.size a, (y a).val ≠ r.off a + r.stride a * q) : View.canon (⟨r, w⟩ :: L) y = View.canon L y := by
  refine View.canon_cons_of_not_mem ⟨r, w⟩ L fun hm => ?_
  obtain ⟨q, hq, he⟩ := (LoadRect.mem_set (r := r.toLoadRect)).1 hm a
  exact h q hq he

/-- A block stored as its two halves, read at a row. -/
theorem two_halves {i0 i1} (P1 P0 : S1x256x1024.Idx → EReal) (f : Fin 512 → Fin 1024 → EReal)
    (h0 : ∀ r n, P0 (ix3 0 r n) = f (at' 0 (by omega) r) n) (h1 : ∀ r n, P1 (ix3 0 r n) = f (at' 256 (by omega) r) n) (R : Fin 512) (n : Fin 1024) :
    View.canon (Val := Elt Ideal) (s := S1x512x1024) (e := .f32)
      [⟨Rect.unit (s := S1x512x1024) ![0, 256, 0] S1x256x1024.size i1, P1⟩, ⟨Rect.unit (s := S1x512x1024) ![0, 0, 0] S1x256x1024.size i0, P0⟩] (ix3 0 R n)
    = f R n := by
  by_cases h : R.val < 256
  · refine (canon_off (e := .f32) (Rect.unit (s := S1x512x1024) ![0, 256, 0] S1x256x1024.size i1) P1 _ (ix3 0 R n) ⟨1, by decide⟩ fun q _ he => ?_).trans
      ((canon_at (e := .f32) (Rect.unit (s := S1x512x1024) ![0, 0, 0] S1x256x1024.size i0) P0 _ (ix3 0 R n) (ix3 0 ⟨R.val, h⟩ n) fun a => ?_).trans ?_)
    · have he' : R.val = 256 + 1 * q := he
      omega
    · match a with
      | ⟨0, _⟩ => rfl
      | ⟨1, _⟩ => show R.val = 0 + 1 * R.val; omega
      | ⟨2, _⟩ => show n.val = 0 + 1 * n.val; omega
    · exact (h0 _ n).trans (congrArg (fun R => f R n) (Fin.ext (Nat.zero_add _)))
  · refine (canon_at (e := .f32) (Rect.unit (s := S1x512x1024) ![0, 256, 0] S1x256x1024.size i1) P1 _ (ix3 0 R n) (ix3 0 ⟨R.val - 256, by omega⟩ n) fun a => ?_).trans ?_
    · match a with
      | ⟨0, _⟩ => rfl
      | ⟨1, _⟩ => show R.val = 256 + 1 * (R.val - 256); omega
      | ⟨2, _⟩ => show n.val = 0 + 1 * n.val; omega
    · exact (h1 _ n).trans (congrArg (fun R => f R n) (Fin.ext (show 256 + (R.val - 256) = R.val by omega)))

/-- The history left by a point whose last 22 stores there are the second half block's last rows, column block by column block. -/
def left (U : Fin 256 → Fin 5632 → EReal) (y : S8x5632.Idx) : EReal := kept U (y 0) (y 1)

/-- A block of history columns lies within the history buffer. -/
theorem left_inb {a : ℕ} (ha : a + 256 ≤ 5632) (d : Fin 2) : ![0, a] d + S8x256.size d ≤ S8x5632.size d :=
  match d with
  | ⟨0, _⟩ => le_refl 8
  | ⟨1, _⟩ => ha

/-- The block of history columns that a half block leaves is the last eight rows of its up projection. -/
theorem left_piece {hn : FVec Ideal S256x1024 .bf16} {arg8 : Memref sig .tc .vmem S1024x5632 .bf16} {harg8 : arg8.IsWhole} {x6 : Vec Ideal S1024x5632 .bf16}
    {U : Fin 256 → Fin 5632 → EReal} (hU : ∀ r n, ∑ k, hn (ix2 r k) * x6 (ix2 k n) = U r n) {a : ℕ} (ha : a + 256 ≤ 5632) (ia) (x : S8x256.Idx) :
    k0_pay19 (F := Ideal) (k0_pay18 (upBlock hn arg8 harg8 x6 a ia)) x
    = left U ((Rect.unit (s := S8x5632) ![0, a] S8x256.size (left_inb ha)).emb x) := by
  have hx : x = ix2 (x 0) (x 1) := funext fun d => match d with | ⟨0, _⟩ => rfl | ⟨1, _⟩ => rfl
  refine (congrArg _ hx).trans ((kept_rows hU ha (x 0) (x 1)).trans ?_)
  unfold left kept
  congr 1
  · exact Fin.ext (show 248 + (x 0).val = 248 + (0 + 1 * (x 0).val) by omega)
  · exact Fin.ext (show a + (x 1).val = a + 1 * (x 1).val by omega)

end Cert.KernelIdeal.Tail

end
-- ==== Proof.Windows.lean ====
/-
  What a grid point is given: point `t` has rows `512 (t mod 8)` onwards of batch row `t / 8`, and every parameter whole.
-/
module

public import proofs.«01_k».proof.Proof.Tail
public import proofs.«01_k».proof.Proof.Gen.KernelIdeal.Value
public import Idealize.ShloMosaic.Lib.Pipeline.ValueKit
public import Idealize.ShloMosaic.Lib.Claim

@[expose] public section

noncomputable section

namespace Cert.KernelIdeal.Layer

open Idealize.ShloMosaic Idealize.ShloMosaic.TcCoe Idealize.SL.Sem
open Cert.KernelIdeal Cert.KernelIdeal.Gen Cert.Ffn Cert.KernelIdeal.Half

variable (m : (ℓ : Loc nD τ sig) → Buf (Elt Ideal) ℓ) (c : Dev nD)

/-- The parameters, read from the arguments. -/
def W : Weights where
  wo k n := m ((c : Thread nD τ).loc main_arg4) (ix2 k n)
  lnf n := m ((c : Thread nD τ).loc main_arg5) (ix1 n)
  wup k n := m ((c : Thread nD τ).loc main_arg6) (ix2 k n)
  cw k n := m ((c : Thread nD τ).loc main_arg7) (ix2 k n)
  cb n := m ((c : Thread nD τ).loc main_arg8) (ix1 n)
  wdn k n := m ((c : Thread nD τ).loc main_arg9) (ix2 k n)
  lnp n := m ((c : Thread nD τ).loc main_arg10) (ix1 n)
  wg k n := m ((c : Thread nD τ).loc main_arg11) (ix2 k n)
  wple k n := m ((c : Thread nD τ).loc main_arg12) (ix2 k n)
  lnl n := m ((c : Thread nD τ).loc main_arg13) (ix1 n)

/-- The row position `s` of batch row `b` starts the feed-forward block from. -/
def h1 (b : Fin 8) (s : Fin 4096) : Fin 1024 → EReal :=
  proj (W m c) (fun n => m ((c : Thread nD τ).loc main_arg0) (ix3 b s n))
    (fun k => half (m ((c : Thread nD τ).loc main_arg1) (ix3 b ⟨s / 2, by omega⟩ k)) (s % 2))
    (fun k => half (m ((c : Thread nD τ).loc main_arg2) (ix3 b ⟨s / 2, by omega⟩ k)) (s % 2))

/-- The batch row a point works on, -/
def bat (t : Fin cfg0.N) : Fin 8 := ⟨t.val / 8, by have := lt_of_lt_of_eq t.isLt (show cfg0.N = 64 from N_0); omega⟩
/-- and the position in the sequence of its row `R`. -/
def pos (t : Fin cfg0.N) (R : Fin 512) : Fin 4096 := ⟨512 * (t.val % 8) + R.val, by omega⟩

/-- The blocks of the arrays that are cut along batch and sequence, and of the result. -/
theorem idx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_14.index t (0 : Fin 3) = t.val / 8 ∧ win0_14.index t (1 : Fin 3) = t.val % 8 ∧ win0_14.index t (2 : Fin 3) = 0) :=
  (by decide +kernel : ∀ t : Fin grid0.N, _)

/-- Every parameter is one block. -/
theorem idxW : ∀ t : Fin cfg0.N,
    (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0) :=
  (by decide +kernel : ∀ t : Fin grid0.N, _)

variable (t : Fin cfg0.N)

/-- The input rows of a point. -/
theorem x_at (R : Fin 512) (n : Fin 1024) :
    (iblk m c 0 t : Vec Ideal S1x512x1024 .f32) (ix3 0 R n) = m ((c : Thread nD τ).loc main_arg0) (ix3 (bat t) (pos t R) n) := by
  blk_ext [iblk, V_main_arg0, idx t, bat, pos]

/-- The embedding rows of a point. -/
theorem p_at (R : Fin 512) (n : Fin 256) :
    (iblk m c 3 t : Vec Ideal S1x512x256 .f32) (ix3 0 R n) = m ((c : Thread nD τ).loc main_arg3) (ix3 (bat t) (pos t R) n) := by
  blk_ext [iblk, V_main_arg3, idx t, bat, pos]

/-- The packed attention rows of a point. -/
theorem att_at (q : Fin 256) (n : Fin 512) :
    (iblk m c 1 t : Vec Ideal S1x256x512 .i32) (ix3 0 q n)
    = m ((c : Thread nD τ).loc main_arg1) (ix3 (bat t) ⟨256 * (t.val % 8) + q.val, by omega⟩ n) := by
  blk_ext [iblk, V_main_arg1, idx t, bat]

/-- The packed pooling rows of a point. -/
theorem pool_at (q : Fin 256) (n : Fin 512) :
    (iblk m c 2 t : Vec Ideal S1x256x512 .i32) (ix3 0 q n)
    = m ((c : Thread nD τ).loc main_arg2) (ix3 (bat t) ⟨256 * (t.val % 8) + q.val, by omega⟩ n) := by
  blk_ext [iblk, V_main_arg2, idx t, bat]

/-- The output projection that a point sees. -/
theorem wo_at (k n : Fin 1024) : (iblk m c 4 t : Vec Ideal S1024x1024 .bf16) (ix2 k n) = (W m c).wo k n := by
  show _ = m ((c : Thread nD τ).loc main_arg4) (ix2 k n)
  blk_ext [iblk, V_main_arg4, idxW t]

/-- The up projection that a point sees. -/
theorem wup_at (k : Fin 1024) (n : Fin 5632) : (iblk m c 6 t : Vec Ideal S1024x5632 .bf16) (ix2 k n) = (W m c).wup k n := by
  show _ = m ((c : Thread nD τ).loc main_arg6) (ix2 k n)
  blk_ext [iblk, V_main_arg6, idxW t]

/-- The convolution taps that a point sees. -/
theorem cw_at (k : Fin 3) (n : Fin 5632) : (iblk m c 7 t : Vec Ideal S3x5632 .f32) (ix2 k n) = (W m c).cw k n := by
  show _ = m ((c : Thread nD τ).loc main_arg7) (ix2 k n)
  blk_ext [iblk, V_main_arg7, idxW t]

/-- The down projection that a point sees. -/
theorem wdn_at (k : Fin 2816) (n : Fin 1024) : (iblk m c 9 t : Vec Ideal S2816x1024 .bf16) (ix2 k n) = (W m c).wdn k n := by
  show _ = m ((c : Thread nD τ).loc main_arg9) (ix2 k n)
  blk_ext [iblk, V_main_arg9, idxW t]

/-- The gate matrix that a point sees. -/
theorem wg_at (k n : Fin 1024) : (iblk m c 11 t : Vec Ideal S1024x1024 .bf16) (ix2 k n) = (W m c).wg k n := by
  show _ = m ((c : Thread nD τ).loc main_arg11) (ix2 k n)
  blk_ext [iblk, V_main_arg11, idxW t]

/-- The embedding matrix that a point sees. -/
theorem wple_at (k : Fin 256) (n : Fin 1024) : (iblk m c 12 t : Vec Ideal S256x1024 .bf16) (ix2 k n) = (W m c).wple k n := by
  show _ = m ((c : Thread nD τ).loc main_arg12) (ix2 k n)
  blk_ext [iblk, V_main_arg12, idxW t]

/-- The gains of the first norm that a point sees. -/
theorem lnf_at (n : Fin 1024) : (iblk m c 5 t : Vec Ideal S1x1024 .f32) (ix2 0 n) = (W m c).lnf n := by
  show _ = m ((c : Thread nD τ).loc main_arg5) (ix1 n)
  blk_simp [iblk, idxW t]
  entry_read
  pointwise
  blk_ext [idxW t]

/-- The convolution bias that a point sees. -/
theorem cb_at (n : Fin 5632) : (iblk m c 8 t : Vec Ideal S1x5632 .f32) (ix2 0 n) = (W m c).cb n := by
  show _ = m ((c : Thread nD τ).loc main_arg8) (ix1 n)
  blk_simp [iblk, idxW t]
  entry_read
  pointwise
  blk_ext [idxW t]

/-- The gains of the second norm that a point sees. -/
theorem lnp_at (n : Fin 1024) : (iblk m c 10 t : Vec Ideal S1x1024 .f32) (ix2 0 n) = (W m c).lnp n := by
  show _ = m ((c : Thread nD τ).loc main_arg10) (ix1 n)
  blk_simp [iblk, idxW t]
  entry_read
  pointwise
  blk_ext [idxW t]

/-- The gains of the last norm that a point sees. -/
theorem lnl_at (n : Fin 1024) : (iblk m c 13 t : Vec Ideal S1x1024 .f32) (ix2 0 n) = (W m c).lnl n := by
  show _ = m ((c : Thread nD τ).loc main_arg13) (ix1 n)
  blk_simp [iblk, idxW t]
  entry_read
  pointwise
  blk_ext [idxW t]

end Cert.KernelIdeal.Layer

end
-- ==== Proof.CaseA.lean ====
/-
  What the activation buffer holds after the two half blocks of a point that starts a sequence.
-/
module

public import Idealize.ShloMosaic.Lib.Tactic.RunNames
public import proofs.«01_k».proof.Proof.Half
public import proofs.«01_k».proof.Proof.Gen.KernelIdeal.Frame

@[expose] public section

set_option maxRecDepth 16384

noncomputable section

namespace Cert.KernelIdeal.CaseA

open Idealize.ShloMosaic Idealize.ShloMosaic.TcCoe Idealize.SL.Sem
open Cert.KernelIdeal Cert.KernelIdeal.Gen Cert.Ffn Cert.KernelIdeal.Pay Cert.KernelIdeal.Stage Cert.KernelIdeal.Piece Cert.KernelIdeal.Half

variable (c : Dev nD) (arg2 : Memref sig .tc .vmem S1x512x1024 .f32) (harg2 : arg2.IsWhole) (arg3 : Memref sig .tc .vmem S1x256x512 .i32) (harg3 : arg3.IsWhole)
  (arg4 : Memref sig .tc .vmem S1x256x512 .i32) (harg4 : arg4.IsWhole) (arg6 : Memref sig .tc .vmem S1024x1024 .bf16) (harg6 : arg6.IsWhole)
  (arg7 : Memref sig .tc .vmem S1x1024 .f32) (harg7 : arg7.IsWhole) (arg8 : Memref sig .tc .vmem S1024x5632 .bf16) (harg8 : arg8.IsWhole)
  (arg9 : Memref sig .tc .vmem S3x5632 .f32) (harg9 : arg9.IsWhole) (arg10 : Memref sig .tc .vmem S1x5632 .f32) (harg10 : arg10.IsWhole)
  (arg18 : Memref sig .tc .vmem S8x5632 .f32) (arg19 : Memref sig .tc .vmem S4x2x792x128 .f32)
  (x0 : Vec Ideal S1x512x1024 .f32) (x1 x2 : Vec Ideal S1x256x512 .i32) (x4 : Vec Ideal S1024x1024 .bf16) (x5 : Vec Ideal S1x1024 .f32)
  (x6 : Vec Ideal S1024x5632 .bf16) (x7 : Vec Ideal S3x5632 .f32) (x8 : Vec Ideal S1x5632 .f32)

set_option maxHeartbeats 4000000 in
/-- The activation buffer at the first block of a sequence: every piece written is a block of activations of the convolution whose history is zero
for the first half block, and the last rows of the first half block for the second. -/
theorem acts_of (W : Weights) (U0 U1 : Fin 256 → Fin 5632 → EReal)
    (hU0 : ∀ r n, ∑ k, kernelRun0_A.sl.r_4 (F := Ideal) c arg2 harg2 arg3 harg3 arg4 harg4 arg6 harg6 arg7 harg7 x0 x1 x2 x4 x5 (ix2 r k) * x6 (ix2 k n) = U0 r n)
    (hU1 : ∀ r n, ∑ k, kernelRun0_A.sl.r_5 (F := Ideal) c arg2 harg2 arg3 harg3 arg4 harg4 arg6 harg6 arg7 harg7 x0 x1 x2 x4 x5 (ix2 r k) * x6 (ix2 k n) = U1 r n)
    (hcw : ∀ k n, x7 (ix2 k n) = W.cw k n) (hcb : ∀ n, x8 (ix2 0 n) = W.cb n) :
    View.PiecesOf (acts (cv W U0 fun _ _ => 0) (cv W U1 (kept U0)))
      (kernelRun0_A.sl.HS0_22 (F := Ideal) c arg2 harg2 arg3 harg3 arg4 harg4 arg6 harg6 arg7 harg7 arg8 harg8 arg9 harg9 arg10 harg10 arg18 arg19 x0 x1 x2 x4 x5 x6 x7 x8) := by
  iterate 11
    refine ⟨acts_hi (by omega) fun r q => gated_eq (u := cv W U1 (kept U0) r) (by omega)
      (conv_run (U := U1) (car := kept U0) hU1 hcw hcb (by omega) (fun i c => ?_) (fun i c => ?_) r q)
      (conv_run (U := U1) (car := kept U0) hU1 hcw hcb (by omega) (fun i c => ?_) (fun i c => ?_) r q), ?_⟩
    · repeat refine hist_skip ?_ (by omega)
      exact hist_hit0 hU0 (by omega) i c
    · repeat refine hist_skip ?_ (by omega)
      exact hist_hit1 hU0 (by omega) i c
    · repeat refine hist_skip ?_ (by omega)
      exact hist_hit0 hU0 (by omega) i c
    · repeat refine hist_skip ?_ (by omega)
      exact hist_hit1 hU0 (by omega) i c
  iterate 11
    refine ⟨acts_lo (by omega) fun r q => gated_eq (u := cv W U0 (fun _ _ => 0) r) (by omega)
      (conv_run (U := U0) (car := fun _ _ => 0) hU0 hcw hcb (by omega) (fun i c => ?_) (fun i c => ?_) r q)
      (conv_run (U := U0) (car := fun _ _ => 0) hU0 hcw hcb (by omega) (fun i c => ?_) (fun i c => ?_) r q), ?_⟩
    iterate 4
      · repeat refine hist_skip ?_ (by omega)
        exact hist_zero (by omega) i c
  exact trivial

end Cert.KernelIdeal.CaseA

end
-- ==== Proof.BlockA.lean ====
/-
  A grid point of case A (the first of a sequence: the history starts at zero): the rows it stores and the history it leaves.
-/
module

public import proofs.«01_k».proof.Proof.Tail
public import proofs.«01_k».proof.Proof.CaseA
public import proofs.«01_k».proof.Proof.Gen.KernelIdeal.Frame

@[expose] public section

set_option maxRecDepth 16384

noncomputable section

namespace Cert.KernelIdeal.CaseA

open Idealize.ShloMosaic Idealize.ShloMosaic.TcCoe Idealize.SL.Sem
open Cert.KernelIdeal Cert.KernelIdeal.Gen Cert.Ffn Cert.KernelIdeal.Pay Cert.KernelIdeal.Stage Cert.KernelIdeal.Piece Cert.KernelIdeal.Half Cert.KernelIdeal.Tail

variable (c : Dev nD) (i : grid0.Coords)
  (arg2 : Memref sig .tc .vmem S1x512x1024 .f32) (harg2 : arg2.IsWhole) (arg3 : Memref sig .tc .vmem S1x256x512 .i32) (harg3 : arg3.IsWhole) (arg4 : Memref sig .tc .vmem S1x256x512 .i32) (harg4 : arg4.IsWhole)
  (arg5 : Memref sig .tc .vmem S1x512x256 .f32) (harg5 : arg5.IsWhole) (arg6 : Memref sig .tc .vmem S1024x1024 .bf16) (harg6 : arg6.IsWhole) (arg7 : Memref sig .tc .vmem S1x1024 .f32) (harg7 : arg7.IsWhole)
  (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole)
  (arg11 : Memref sig .tc .vmem S2816x1024 .bf16) (harg11 : arg11.IsWhole) (arg12 : Memref sig .tc .vmem S1x1024 .f32) (harg12 : arg12.IsWhole) (arg13 : Memref sig .tc .vmem S1024x1024 .bf16) (harg13 : arg13.IsWhole)
  (arg14 : Memref sig .tc .vmem S256x1024 .bf16) (harg14 : arg14.IsWhole) (arg15 : Memref sig .tc .vmem S1x1024 .f32) (harg15 : arg15.IsWhole) (arg16 : Memref sig .tc .vmem S1x512x1024 .f32) (harg16 : arg16.IsWhole)
  (arg17 : Memref sig .tc .vmem S512x2816 .bf16) (harg17 : arg17.IsWhole) (arg18 : Memref sig .tc .vmem S8x5632 .f32) (harg18 : arg18.IsWhole) (arg19 : Memref sig .tc .vmem S4x2x792x128 .f32) (harg19 : arg19.IsWhole)
  (hc0 : cond0_0 i)
  (x0 : Vec Ideal S1x512x1024 .f32) (x1 : Vec Ideal S1x256x512 .i32) (x2 : Vec Ideal S1x256x512 .i32) (x3 : Vec Ideal S1x512x256 .f32) (x4 : Vec Ideal S1024x1024 .bf16)
  (x5 : Vec Ideal S1x1024 .f32) (x6 : Vec Ideal S1024x5632 .bf16) (x7 : Vec Ideal S3x5632 .f32) (x8 : Vec Ideal S1x5632 .f32) (x9 : Vec Ideal S2816x1024 .bf16)
  (x10 : Vec Ideal S1x1024 .f32) (x11 : Vec Ideal S1024x1024 .bf16) (x12 : Vec Ideal S256x1024 .bf16) (x13 : Vec Ideal S1x1024 .f32)

/-- The up projections of the first half block. -/
theorem up_lo (W : Weights) (hwo : ∀ k n, x4 (ix2 k n) = W.wo k n) (hln : ∀ n, x5 (ix2 0 n) = W.lnf n) (hup : ∀ k n, x6 (ix2 k n) = W.wup k n)
    (r : Fin 256) (n : Fin 5632) :
    ∑ k, kernelRun0_A.sl.r_4 (F := Ideal) c arg2 harg2 arg3 harg3 arg4 harg4 arg6 harg6 arg7 harg7 x0 x1 x2 x4 x5 (ix2 r k) * x6 (ix2 k n) = pre W (hB W x0 x1 x2 (at' 0 (by omega) r)) n :=
  up_eq (h := fun r => hB W x0 x1 x2 (at' 0 (by omega) r)) hln hup (fun r n => rows_eq hwo (by omega) (by omega) r n) r n

/-- The up projections of the second half block. -/
theorem up_hi (W : Weights) (hwo : ∀ k n, x4 (ix2 k n) = W.wo k n) (hln : ∀ n, x5 (ix2 0 n) = W.lnf n) (hup : ∀ k n, x6 (ix2 k n) = W.wup k n)
    (r : Fin 256) (n : Fin 5632) :
    ∑ k, kernelRun0_A.sl.r_5 (F := Ideal) c arg2 harg2 arg3 harg3 arg4 harg4 arg6 harg6 arg7 harg7 x0 x1 x2 x4 x5 (ix2 r k) * x6 (ix2 k n) = pre W (hB W x0 x1 x2 (at' 256 (by omega) r)) n :=
  up_eq (h := fun r => hB W x0 x1 x2 (at' 256 (by omega) r)) hln hup (fun r n => rows_eq hwo (by omega) (by omega) r n) r n

/-- The rows the point stores. -/
theorem out_rows (W : Weights) (hwo : ∀ k n, x4 (ix2 k n) = W.wo k n) (hln : ∀ n, x5 (ix2 0 n) = W.lnf n) (hup : ∀ k n, x6 (ix2 k n) = W.wup k n)
    (hcw : ∀ k n, x7 (ix2 k n) = W.cw k n) (hcb : ∀ n, x8 (ix2 0 n) = W.cb n) (h9 : ∀ k n, x9 (ix2 k n) = W.wdn k n)
    (h10 : ∀ n, x10 (ix2 0 n) = W.lnp n) (h11 : ∀ k n, x11 (ix2 k n) = W.wg k n) (h12 : ∀ k n, x12 (ix2 k n) = W.wple k n)
    (h13 : ∀ n, x13 (ix2 0 n) = W.lnl n) (R : Fin 512) (n : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 (ix3 0 R n)
    = outRow W (hB W x0 x1 x2 R) (backB W (hB W x0 x1 x2) (fun _ _ => 0) 2 R) (backB W (hB W x0 x1 x2) (fun _ _ => 0) 1 R) (fun k => x3 (ix3 0 R k)) n := by
  unfold out0_A_14
  rw [View.read_writes_junk_apply_eq_canon]
  have hL := acts_of c arg2 harg2 arg3 harg3 arg4 harg4 arg6 harg6 arg7 harg7 arg8 harg8 arg9 harg9 arg10 harg10 arg18 arg19 x0 x1 x2 x4 x5 x6 x7 x8 W _ _ (up_lo c arg2 harg2 arg3 harg3 arg4 harg4 arg6 harg6 arg7 harg7 x0 x1 x2 x4 x5 x6 W hwo hln hup) (up_hi c arg2 harg2 arg3 harg3 arg4 harg4 arg6 harg6 arg7 harg7 x0 x1 x2 x4 x5 x6 W hwo hln hup) hcw hcb
  have hC := fun y => View.cover_of_tiledL (kernelRun0_A.sl.HS0_22 (F := Ideal) c arg2 harg2 arg3 harg3 arg4 harg4 arg6 harg6 arg7 harg7 arg8 harg8 arg9 harg9 arg10 harg10 arg18 arg19 x0 x1 x2 x4 x5 x6 x7 x8) S256x256.size (by sl_kernel_rfl) y
  refine two_halves _ _
    (fun R n => outRow W (hB W x0 x1 x2 R) (backB W (hB W x0 x1 x2) (fun _ _ => 0) 2 R) (backB W (hB W x0 x1 x2) (fun _ _ => 0) 1 R) (fun k => x3 (ix3 0 R k)) n)
    (fun r n => ?_) (fun r n => ?_) R n
  · refine (rows_out h9 h10 h11 h12 h13 (h := fun r => hB W x0 x1 x2 (at' 0 (by omega) r)) (fun r n => rows_eq hwo (by omega) (by omega) r n)
      (fun r l => acts_read_lo hL hC r l) (by omega) r n).trans ?_
    rw [cv_lo]
    rfl
  · refine (rows_out h9 h10 h11 h12 h13 (h := fun r => hB W x0 x1 x2 (at' 256 (by omega) r)) (fun r n => rows_eq hwo (by omega) (by omega) r n)
      (fun r l => acts_read_hi hL hC r l) (by omega) r n).trans ?_
    rw [cv_hi _ _ fun _ _ => 0]
    rfl

/-- The history the point leaves: the last eight rows' up projections. -/
theorem left_rows (W : Weights) (hwo : ∀ k n, x4 (ix2 k n) = W.wo k n) (hln : ∀ n, x5 (ix2 0 n) = W.lnf n) (hup : ∀ k n, x6 (ix2 k n) = W.wup k n)
    (q : Fin 8) (n : Fin 5632) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 (ix2 q n) = pre W (hB W x0 x1 x2 ⟨504 + q.val, by omega⟩) n := by
  unfold sout0_A_1
  rw [View.read_writes_junk_apply_eq_canon]
  have hU := up_hi c arg2 harg2 arg3 harg3 arg4 harg4 arg6 harg6 arg7 harg7 x0 x1 x2 x4 x5 x6 W hwo hln hup
  have hP : View.PiecesOf (left fun r => pre W (hB W x0 x1 x2 (at' 256 (by omega) r))) ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.1.take 22) := by
    iterate 22 (refine ⟨left_piece hU (by omega) _, ?_⟩)
    exact trivial
  have hC := fun y => View.cover_of_tiledL ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.1.take 22) S8x256.size (by sl_kernel_rfl) y
  rw [← List.take_append_drop 22 (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.1]
  refine (View.canon_append_of_piecesOf _ _ _ hP _ (hC _)).trans ?_
  exact congrArg (fun R => pre W (hB W x0 x1 x2 R) n) (Fin.ext (show 256 + (248 + q.val) = 504 + q.val by omega))

end Cert.KernelIdeal.CaseA

end
-- ==== Proof.CaseB.lean ====
/-
  What the activation buffer holds after the two half blocks of a point that continues a sequence.
-/
module

public import Idealize.ShloMosaic.Lib.Tactic.RunNames
public import proofs.«01_k».proof.Proof.Half
public import proofs.«01_k».proof.Proof.Gen.KernelIdeal.Frame

@[expose] public section

set_option maxRecDepth 16384

noncomputable section

namespace Cert.KernelIdeal.CaseB

open Idealize.ShloMosaic Idealize.ShloMosaic.TcCoe Idealize.SL.Sem
open Cert.KernelIdeal Cert.KernelIdeal.Gen Cert.Ffn Cert.KernelIdeal.Pay Cert.KernelIdeal.Stage Cert.KernelIdeal.Piece Cert.KernelIdeal.Half

/-- History read in the first lane tile of the buffer as the point found it. -/
theorem hist_old0 {m : Memref sig .tc .vmem S8x5632 .f32} (hm : m.IsWhole) (x : Vec Ideal S8x5632 .f32) {a : ℕ} (ha : a + 256 ≤ 5632) {hb}
    (i : Fin 8) (c : Fin 128) :
    View.readAt (Elt Ideal) m.view (Rect.unit (s := S8x5632) ![0, a] S8x128.size hb).toLoadRect (hm.unread x) (ix2 i c)
    = x (ix2 i ⟨a + c.val, by omega⟩) := by
  refine (cols_at hm x 0 a (by omega) (by omega) i c).trans (congrArg x ?_)
  congr 1; exact Fin.ext (Nat.zero_add _)

/-- History read in the second lane tile of the buffer as the point found it. -/
theorem hist_old1 {m : Memref sig .tc .vmem S8x5632 .f32} (hm : m.IsWhole) (x : Vec Ideal S8x5632 .f32) {a : ℕ} (ha : a + 256 ≤ 5632) {hb}
    (i : Fin 8) (c : Fin 128) :
    View.readAt (Elt Ideal) m.view (Rect.unit (s := S8x5632) ![0, a + 128] S8x128.size hb).toLoadRect (hm.unread x) (ix2 i c)
    = x (ix2 i ⟨a + (128 + c.val), by omega⟩) := by
  refine (cols_at hm x 0 (a + 128) (by omega) (by omega) i c).trans (congrArg x ?_)
  congr 1
  · exact Fin.ext (Nat.zero_add _)
  · exact Fin.ext (Nat.add_assoc _ _ _)

variable (c : Dev nD) (arg2 : Memref sig .tc .vmem S1x512x1024 .f32) (harg2 : arg2.IsWhole) (arg3 : Memref sig .tc .vmem S1x256x512 .i32) (harg3 : arg3.IsWhole)
  (arg4 : Memref sig .tc .vmem S1x256x512 .i32) (harg4 : arg4.IsWhole) (arg6 : Memref sig .tc .vmem S1024x1024 .bf16) (harg6 : arg6.IsWhole)
  (arg7 : Memref sig .tc .vmem S1x1024 .f32) (harg7 : arg7.IsWhole) (arg8 : Memref sig .tc .vmem S1024x5632 .bf16) (harg8 : arg8.IsWhole)
  (arg9 : Memref sig .tc .vmem S3x5632 .f32) (harg9 : arg9.IsWhole) (arg10 : Memref sig .tc .vmem S1x5632 .f32) (harg10 : arg10.IsWhole)
  (arg18 : Memref sig .tc .vmem S8x5632 .f32) (harg18 : arg18.IsWhole) (arg19 : Memref sig .tc .vmem S4x2x792x128 .f32)
  (x0 : Vec Ideal S1x512x1024 .f32) (x1 x2 : Vec Ideal S1x256x512 .i32) (x4 : Vec Ideal S1024x1024 .bf16) (x5 : Vec Ideal S1x1024 .f32)
  (x6 : Vec Ideal S1024x5632 .bf16) (x7 : Vec Ideal S3x5632 .f32) (x8 : Vec Ideal S1x5632 .f32) (xs1 : Vec Ideal S8x5632 .f32)

set_option maxHeartbeats 4000000 in
/-- The activation buffer at a later block of a sequence: as at the first, but the first half block takes its history from what the previous point left. -/
theorem acts_of (W : Weights) (U0 U1 : Fin 256 → Fin 5632 → EReal)
    (hU0 : ∀ r n, ∑ k, kernelRun0_B.sl.r_4 (F := Ideal) c arg2 harg2 arg3 harg3 arg4 harg4 arg6 harg6 arg7 harg7 x0 x1 x2 x4 x5 (ix2 r k) * x6 (ix2 k n) = U0 r n)
    (hU1 : ∀ r n, ∑ k, kernelRun0_B.sl.r_5 (F := Ideal) c arg2 harg2 arg3 harg3 arg4 harg4 arg6 harg6 arg7 harg7 x0 x1 x2 x4 x5 (ix2 r k) * x6 (ix2 k n) = U1 r n)
    (hcw : ∀ k n, x7 (ix2 k n) = W.cw k n) (hcb : ∀ n, x8 (ix2 0 n) = W.cb n) :
    View.PiecesOf (acts (cv W U0 fun i n => xs1 (ix2 i n)) (cv W U1 (kept U0)))
      (kernelRun0_B.sl.HS0_22 (F := Ideal) c arg2 harg2 arg3 harg3 arg4 harg4 arg6 harg6 arg7 harg7 arg8 harg8 arg9 harg9 arg10 harg10 arg18 harg18 arg19 x0 x1 x2 x4 x5 x6 x7 x8 xs1) := by
  iterate 11
    refine ⟨acts_hi (by omega) fun r q => gated_eq (u := cv W U1 (kept U0) r) (by omega)
      (conv_run (U := U1) (car := kept U0) hU1 hcw hcb (by omega) (fun i c => ?_) (fun i c => ?_) r q)
      (conv_run (U := U1) (car := kept U0) hU1 hcw hcb (by omega) (fun i c => ?_) (fun i c => ?_) r q), ?_⟩
    · repeat refine hist_skip ?_ (by omega)
      exact hist_hit0 hU0 (by omega) i c
    · repeat refine hist_skip ?_ (by omega)
      exact hist_hit1 hU0 (by omega) i c
    · repeat refine hist_skip ?_ (by omega)
      exact hist_hit0 hU0 (by omega) i c
    · repeat refine hist_skip ?_ (by omega)
      exact hist_hit1 hU0 (by omega) i c
  iterate 11
    refine ⟨acts_lo (by omega) fun r q => gated_eq (u := cv W U0 (fun i n => xs1 (ix2 i n)) r) (by omega)
      (conv_run (U := U0) (car := fun i n => xs1 (ix2 i n)) hU0 hcw hcb (by omega) (fun i c => ?_) (fun i c => ?_) r q)
      (conv_run (U := U0) (car := fun i n => xs1 (ix2 i n)) hU0 hcw hcb (by omega) (fun i c => ?_) (fun i c => ?_) r q), ?_⟩
    · exact hist_old0 harg18 xs1 (by omega) i c
    · exact hist_old1 harg18 xs1 (by omega) i c
    · exact hist_old0 harg18 xs1 (by omega) i c
    · exact hist_old1 harg18 xs1 (by omega) i c
  exact trivial

end Cert.KernelIdeal.CaseB

end
-- ==== Proof.BlockB.lean ====
/-
  A grid point of case B (any but the first of a sequence: the history is the one the point before left): the rows it stores and the history it leaves.
-/
module

public import proofs.«01_k».proof.Proof.Tail
public import proofs.«01_k».proof.Proof.CaseB
public import proofs.«01_k».proof.Proof.Gen.KernelIdeal.Frame

@[expose] public section

set_option maxRecDepth 16384

noncomputable section

namespace Cert.KernelIdeal.CaseB

open Idealize.ShloMosaic Idealize.ShloMosaic.TcCoe Idealize.SL.Sem
open Cert.KernelIdeal Cert.KernelIdeal.Gen Cert.Ffn Cert.KernelIdeal.Pay Cert.KernelIdeal.Stage Cert.KernelIdeal.Piece Cert.KernelIdeal.Half Cert.KernelIdeal.Tail

variable (c : Dev nD) (i : grid0.Coords)
  (arg2 : Memref sig .tc .vmem S1x512x1024 .f32) (harg2 : arg2.IsWhole) (arg3 : Memref sig .tc .vmem S1x256x512 .i32) (harg3 : arg3.IsWhole) (arg4 : Memref sig .tc .vmem S1x256x512 .i32) (harg4 : arg4.IsWhole)
  (arg5 : Memref sig .tc .vmem S1x512x256 .f32) (harg5 : arg5.IsWhole) (arg6 : Memref sig .tc .vmem S1024x1024 .bf16) (harg6 : arg6.IsWhole) (arg7 : Memref sig .tc .vmem S1x1024 .f32) (harg7 : arg7.IsWhole)
  (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole)
  (arg11 : Memref sig .tc .vmem S2816x1024 .bf16) (harg11 : arg11.IsWhole) (arg12 : Memref sig .tc .vmem S1x1024 .f32) (harg12 : arg12.IsWhole) (arg13 : Memref sig .tc .vmem S1024x1024 .bf16) (harg13 : arg13.IsWhole)
  (arg14 : Memref sig .tc .vmem S256x1024 .bf16) (harg14 : arg14.IsWhole) (arg15 : Memref sig .tc .vmem S1x1024 .f32) (harg15 : arg15.IsWhole) (arg16 : Memref sig .tc .vmem S1x512x1024 .f32) (harg16 : arg16.IsWhole)
  (arg17 : Memref sig .tc .vmem S512x2816 .bf16) (harg17 : arg17.IsWhole) (arg18 : Memref sig .tc .vmem S8x5632 .f32) (harg18 : arg18.IsWhole) (arg19 : Memref sig .tc .vmem S4x2x792x128 .f32) (harg19 : arg19.IsWhole)
  (hc0 : ¬cond0_0 i)
  (x0 : Vec Ideal S1x512x1024 .f32) (x1 : Vec Ideal S1x256x512 .i32) (x2 : Vec Ideal S1x256x512 .i32) (x3 : Vec Ideal S1x512x256 .f32) (x4 : Vec Ideal S1024x1024 .bf16)
  (x5 : Vec Ideal S1x1024 .f32) (x6 : Vec Ideal S1024x5632 .bf16) (x7 : Vec Ideal S3x5632 .f32) (x8 : Vec Ideal S1x5632 .f32) (x9 : Vec Ideal S2816x1024 .bf16)
  (x10 : Vec Ideal S1x1024 .f32) (x11 : Vec Ideal S1024x1024 .bf16) (x12 : Vec Ideal S256x1024 .bf16) (x13 : Vec Ideal S1x1024 .f32) (xs1 : Vec Ideal S8x5632 .f32)

/-- The up projections of the first half block. -/
theorem up_lo (W : Weights) (hwo : ∀ k n, x4 (ix2 k n) = W.wo k n) (hln : ∀ n, x5 (ix2 0 n) = W.lnf n) (hup : ∀ k n, x6 (ix2 k n) = W.wup k n)
    (r : Fin 256) (n : Fin 5632) :
    ∑ k, kernelRun0_B.sl.r_4 (F := Ideal) c arg2 harg2 arg3 harg3 arg4 harg4 arg6 harg6 arg7 harg7 x0 x1 x2 x4 x5 (ix2 r k) * x6 (ix2 k n) = pre W (hB W x0 x1 x2 (at' 0 (by omega) r)) n :=
  up_eq (h := fun r => hB W x0 x1 x2 (at' 0 (by omega) r)) hln hup (fun r n => rows_eq hwo (by omega) (by omega) r n) r n

/-- The up projections of the second half block. -/
theorem up_hi (W : Weights) (hwo : ∀ k n, x4 (ix2 k n) = W.wo k n) (hln : ∀ n, x5 (ix2 0 n) = W.lnf n) (hup : ∀ k n, x6 (ix2 k n) = W.wup k n)
    (r : Fin 256) (n : Fin 5632) :
    ∑ k, kernelRun0_B.sl.r_5 (F := Ideal) c arg2 harg2 arg3 harg3 arg4 harg4 arg6 harg6 arg7 harg7 x0 x1 x2 x4 x5 (ix2 r k) * x6 (ix2 k n) = pre W (hB W x0 x1 x2 (at' 256 (by omega) r)) n :=
  up_eq (h := fun r => hB W x0 x1 x2 (at' 256 (by omega) r)) hln hup (fun r n => rows_eq hwo (by omega) (by omega) r n) r n

/-- The rows the point stores. -/
theorem out_rows (W : Weights) (hwo : ∀ k n, x4 (ix2 k n) = W.wo k n) (hln : ∀ n, x5 (ix2 0 n) = W.lnf n) (hup : ∀ k n, x6 (ix2 k n) = W.wup k n)
    (hcw : ∀ k n, x7 (ix2 k n) = W.cw k n) (hcb : ∀ n, x8 (ix2 0 n) = W.cb n) (h9 : ∀ k n, x9 (ix2 k n) = W.wdn k n)
    (h10 : ∀ n, x10 (ix2 0 n) = W.lnp n) (h11 : ∀ k n, x11 (ix2 k n) = W.wg k n) (h12 : ∀ k n, x12 (ix2 k n) = W.wple k n)
    (h13 : ∀ n, x13 (ix2 0 n) = W.lnl n) (R : Fin 512) (n : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1 (ix3 0 R n)
    = outRow W (hB W x0 x1 x2 R) (backB W (hB W x0 x1 x2) (fun i n => xs1 (ix2 i n)) 2 R) (backB W (hB W x0 x1 x2) (fun i n => xs1 (ix2 i n)) 1 R) (fun k => x3 (ix3 0 R k)) n := by
  unfold out0_B_14
  rw [View.read_writes_junk_apply_eq_canon]
  have hL := acts_of c arg2 harg2 arg3 harg3 arg4 harg4 arg6 harg6 arg7 harg7 arg8 harg8 arg9 harg9 arg10 harg10 arg18 harg18 arg19 x0 x1 x2 x4 x5 x6 x7 x8 xs1 W _ _ (up_lo c arg2 harg2 arg3 harg3 arg4 harg4 arg6 harg6 arg7 harg7 x0 x1 x2 x4 x5 x6 W hwo hln hup) (up_hi c arg2 harg2 arg3 harg3 arg4 harg4 arg6 harg6 arg7 harg7 x0 x1 x2 x4 x5 x6 W hwo hln hup) hcw hcb
  have hC := fun y => View.cover_of_tiledL (kernelRun0_B.sl.HS0_22 (F := Ideal) c arg2 harg2 arg3 harg3 arg4 harg4 arg6 harg6 arg7 harg7 arg8 harg8 arg9 harg9 arg10 harg10 arg18 harg18 arg19 x0 x1 x2 x4 x5 x6 x7 x8 xs1) S256x256.size (by sl_kernel_rfl) y
  refine two_halves _ _
    (fun R n => outRow W (hB W x0 x1 x2 R) (backB W (hB W x0 x1 x2) (fun i n => xs1 (ix2 i n)) 2 R) (backB W (hB W x0 x1 x2) (fun i n => xs1 (ix2 i n)) 1 R) (fun k => x3 (ix3 0 R k)) n)
    (fun r n => ?_) (fun r n => ?_) R n
  · refine (rows_out h9 h10 h11 h12 h13 (h := fun r => hB W x0 x1 x2 (at' 0 (by omega) r)) (fun r n => rows_eq hwo (by omega) (by omega) r n)
      (fun r l => acts_read_lo hL hC r l) (by omega) r n).trans ?_
    rw [cv_lo]
    rfl
  · refine (rows_out h9 h10 h11 h12 h13 (h := fun r => hB W x0 x1 x2 (at' 256 (by omega) r)) (fun r n => rows_eq hwo (by omega) (by omega) r n)
      (fun r l => acts_read_hi hL hC r l) (by omega) r n).trans ?_
    rw [cv_hi _ _ fun i n => xs1 (ix2 i n)]
    rfl

/-- The history the point leaves: the last eight rows' up projections. -/
theorem left_rows (W : Weights) (hwo : ∀ k n, x4 (ix2 k n) = W.wo k n) (hln : ∀ n, x5 (ix2 0 n) = W.lnf n) (hup : ∀ k n, x6 (ix2 k n) = W.wup k n)
    (q : Fin 8) (n : Fin 5632) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1 (ix2 q n) = pre W (hB W x0 x1 x2 ⟨504 + q.val, by omega⟩) n := by
  unfold sout0_B_1
  rw [View.read_writes_junk_apply_eq_canon]
  have hU := up_hi c arg2 harg2 arg3 harg3 arg4 harg4 arg6 harg6 arg7 harg7 x0 x1 x2 x4 x5 x6 W hwo hln hup
  have hP : View.PiecesOf (left fun r => pre W (hB W x0 x1 x2 (at' 256 (by omega) r))) ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1).2.1.take 22) := by
    iterate 22 (refine ⟨left_piece hU (by omega) _, ?_⟩)
    exact trivial
  have hC := fun y => View.cover_of_tiledL ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1).2.1.take 22) S8x256.size (by sl_kernel_rfl) y
  rw [← List.take_append_drop 22 (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1).2.1]
  refine (View.canon_append_of_piecesOf _ _ _ hP _ (hC _)).trans ?_
  exact congrArg (fun R => pre W (hB W x0 x1 x2 R) n) (Fin.ext (show 256 + (248 + q.val) = 504 + q.val by omega))

end Cert.KernelIdeal.CaseB

end
-- ==== Proof.Layer.lean ====
/-
  The kernel's result: every point writes its 512 rows of the layer, the history a point finds being the up projections of the eight rows
  before its block.
-/
module

public import proofs.«01_k».proof.Proof.Windows
public import proofs.«01_k».proof.Proof.BlockA
public import proofs.«01_k».proof.Proof.BlockB

@[expose] public section

noncomputable section

namespace Cert.KernelIdeal.Layer

open Idealize.ShloMosaic Idealize.ShloMosaic.TcCoe Idealize.SL.Sem
open Cert.KernelIdeal Cert.KernelIdeal.Gen Cert.Ffn Cert.KernelIdeal.Half Cert.KernelIdeal.Tail

variable (m : (ℓ : Loc nD τ sig) → Buf (Elt Ideal) ℓ) (c : Dev nD) (t : Fin cfg0.N)

/-- A point's rows are the layer's rows at its positions. -/
theorem block_rows (R : Fin 512) : hB (W m c) (iblk m c 0 t) (iblk m c 1 t) (iblk m c 2 t) R = h1 m c (bat t) (pos t R) := by
  have hq : (⟨256 * (t.val % 8) + R.val / 2, by omega⟩ : Fin 2048) = ⟨(pos t R).val / 2, by have := (pos t R).isLt; omega⟩ :=
    Fin.ext (show 256 * (t.val % 8) + R.val / 2 = (512 * (t.val % 8) + R.val) / 2 by omega)
  have hm : R.val % 2 = (pos t R).val % 2 := show R.val % 2 = (512 * (t.val % 8) + R.val) % 2 by omega
  unfold hB h1
  congr 1
  · funext n; exact x_at m c t R n
  · funext k; rw [att_at, hm, hq]
  · funext k; rw [pool_at, hm, hq]

/-- What a point leaves in the history buffer. -/
theorem history (q : Fin 8) (n : Fin 5632) :
    (outsAt0 m c t.val t.isLt).2 (ix2 q n) = pre (W m c) (h1 m c (bat t) (pos t ⟨504 + q.val, by omega⟩)) n := by
  rw [← block_rows]
  by_cases h : t.val % 8 = 0
  · rw [outsAt0_A m c t h]
    dsimp only
    exact CaseA.left_rows _ _ _ _ _ _ _ _ _ _ _ _ _ _ _ _ _ _ _ _ _ _ _ _ _ _ _ _ _ _ _ _ _ _ _ _ _ _ _ _ _ _ _ _ _ _ _ _ _ _ _ _ _
      (W m c) (wo_at m c t) (lnf_at m c t) (wup_at m c t) q n
  · rw [outsAt0_B m c t h]
    dsimp only
    exact CaseB.left_rows _ _ _ _ _ _ _ _ _ _ _ _ _ _ _ _ _ _ _ _ _ _ _ _ _ _ _ _ _ _ _ _ _ _ _ _ _ _ _ _ _ _ _ _ _ _ _ _ _ _ _ _ _ _
      (W m c) (wo_at m c t) (lnf_at m c t) (wup_at m c t) q n

/-- In the first block of a sequence nothing precedes the block's own rows. -/
theorem back_first (h : t.val % 8 = 0) (k : ℕ) (R : Fin 512) :
    backB (W m c) (hB (W m c) (iblk m c 0 t) (iblk m c 1 t) (iblk m c 2 t)) (fun _ _ => 0) k R
    = back (W m c) (h1 m c (bat t)) k (pos t R) := by
  funext n
  have hp : (pos t R).val = R.val := show 512 * (t.val % 8) + R.val = R.val by omega
  unfold backB back
  by_cases hk : k ≤ R.val
  · rw [dif_pos hk, if_pos (by omega), block_rows]
    exact congrArg (fun s => pre (W m c) (h1 m c (bat t) s) n) (Fin.ext (show 512 * (t.val % 8) + (R.val - k) = 512 * (t.val % 8) + R.val - k by omega))
  · rw [dif_neg hk, if_neg (by omega)]

/-- In a later block the rows before it are the last of the point before. -/
theorem back_next (h : ¬t.val % 8 = 0) (k : ℕ) (h8 : k ≤ 8) (R : Fin 512) :
    backB (W m c) (hB (W m c) (iblk m c 0 t) (iblk m c 1 t) (iblk m c 2 t))
      (fun q n => (outsAt0 m c (t.val - 1) (Nat.lt_of_le_of_lt (Nat.sub_le _ _) t.isLt)).2 (ix2 q n)) k R
    = back (W m c) (h1 m c (bat t)) k (pos t R) := by
  funext n
  have hp : (pos t R).val = 512 * (t.val % 8) + R.val := rfl
  unfold backB back
  rw [if_pos (by omega)]
  by_cases hk : k ≤ R.val
  · rw [dif_pos hk, block_rows]
    exact congrArg (fun s => pre (W m c) (h1 m c (bat t) s) n) (Fin.ext (show 512 * (t.val % 8) + (R.val - k) = 512 * (t.val % 8) + R.val - k by omega))
  · rw [dif_neg hk]
    refine (history m c ⟨t.val - 1, Nat.lt_of_le_of_lt (Nat.sub_le _ _) t.isLt⟩ _ n).trans ?_
    have hb : bat ⟨t.val - 1, Nat.lt_of_le_of_lt (Nat.sub_le _ _) t.isLt⟩ = bat t := Fin.ext (show (t.val - 1) / 8 = t.val / 8 by omega)
    rw [hb]
    exact congrArg (fun s => pre (W m c) (h1 m c (bat t) s) n)
      (Fin.ext (show 512 * ((t.val - 1) % 8) + (504 + (8 + R.val - k)) = 512 * (t.val % 8) + R.val - k by omega))

/-- The layer's result at a position and a channel. -/
def RES (m : (ℓ : Loc nD τ sig) → Buf (Elt Ideal) ℓ) (c : Dev nD) : Vec Ideal S8x4096x1024 .f32 := fun i =>
  outRow (W m c) (h1 m c (i 0) (i 1)) (back (W m c) (h1 m c (i 0)) 2 (i 1)) (back (W m c) (h1 m c (i 0)) 1 (i 1))
    (fun k => m ((c : Thread nD τ).loc main_arg3) (ix3 (i 0) (i 1) k)) (i 2)

/-- What a point leaves in the output block. -/
theorem stored (R : Fin 512) (n : Fin 1024) : (outsAt0 m c t.val t.isLt).1 (ix3 0 R n) = RES m c (ix3 (bat t) (pos t R) n) := by
  show _ = outRow (W m c) (h1 m c (bat t) (pos t R)) (back (W m c) (h1 m c (bat t)) 2 (pos t R)) (back (W m c) (h1 m c (bat t)) 1 (pos t R))
    (fun k => m ((c : Thread nD τ).loc main_arg3) (ix3 (bat t) (pos t R) k)) n
  simp only [← p_at m c t R]
  by_cases h : t.val % 8 = 0
  · rw [outsAt0_A m c t h, ← block_rows, ← back_first m c t h, ← back_first m c t h]
    dsimp only
    exact CaseA.out_rows _ _ _ _ _ _ _ _ _ _ _ _ _ _ _ _ _ _ _ _ _ _ _ _ _ _ _ _ _ _ _ _ _ _ _ _ _ _ _ _ _ _ _ _ _ _ _ _ _ _ _ _ _
      (W m c) (wo_at m c t) (lnf_at m c t) (wup_at m c t) (cw_at m c t) (cb_at m c t) (wdn_at m c t) (lnp_at m c t) (wg_at m c t) (wple_at m c t)
      (lnl_at m c t) R n
  · rw [outsAt0_B m c t h, ← block_rows, ← back_next m c t h 2 (by omega), ← back_next m c t h 1 (by omega)]
    dsimp only
    exact CaseB.out_rows _ _ _ _ _ _ _ _ _ _ _ _ _ _ _ _ _ _ _ _ _ _ _ _ _ _ _ _ _ _ _ _ _ _ _ _ _ _ _ _ _ _ _ _ _ _ _ _ _ _ _ _ _ _
      (W m c) (wo_at m c t) (lnf_at m c t) (wup_at m c t) (cw_at m c t) (cb_at m c t) (wdn_at m c t) (lnp_at m c t) (wg_at m c t) (wple_at m c t)
      (lnl_at m c t) R n

/-- The result array after the run. -/
theorem final : (dats m 0 c).arrAt 14 cfg0.N = RES m c := by
  refine (dats m 0 c).arrAt_eq_of_covers 14 (RES m c) (by decide +kernel) fun t hf y => ?_
  blk_simp
  rw [after0_14]
  have h0 : (y 0).val < 1 := (y 0).isLt
  have hy : y = (ix3 0 (y 1) (y 2) : S1x512x1024.Idx) := by
    funext a
    match a with
    | ⟨0, _⟩ => exact Fin.ext (show (y 0).val = 0 by omega)
    | ⟨1, _⟩ => rfl
    | ⟨2, _⟩ => rfl
  refine ((congrArg (outsAt0 m c t.val t.isLt).1 hy).trans (stored m c t (y 1) (y 2))).trans (congrArg (RES m c) ?_)
  blk_ext [idx t, bat, pos]

end Cert.KernelIdeal.Layer

end
-- ==== Proof.MixSpec.lean ====
/-
  The first call of the layer, one sequence position at a time, over the extended reals: the query, key and value rows, and the
  multi-scale pooling. These are the functions both programs are shown to compute.
-/
module

public import proofs.«01_k».proof.Proof.Spec

@[expose] public section

noncomputable section

namespace Cert.Mix

open Idealize.ShloMosaic Cert.Ffn

/-- The parameters: the norm's gains, the input projection, a square matrix for each pooling group, a scale for each channel. -/
structure Params where
  g : Fin 1024 → EReal
  win : Fin 1024 → Fin 2048 → EReal
  pw : Fin 4 → Fin 128 → Fin 128 → EReal
  ps : Fin 512 → EReal

/-- The input projection of the normalised row. -/
def lin (W : Params) (x : Fin 1024 → EReal) (n : Fin 2048) : EReal := ∑ k, rms x W.g k * W.win k n

/-- The query, key and value channels: the query ones carry the attention's scale. -/
def qkv (W : Params) (x : Fin 1024 → EReal) (n : Fin 1536) : EReal :=
  if n.val < 512 then lin W x ⟨n, by omega⟩ * Ideal.ofBits .f32 0x3E38AA3B#32 else lin W x ⟨n, by omega⟩

/-- The channels that are pooled. -/
def tok (W : Params) (x : Fin 1024 → EReal) (n : Fin 512) : EReal := lin W x ⟨1536 + n, by omega⟩

/-- The token `k` positions before position `s`: zero before the start. -/
def past (u : Fin 4096 → Fin 512 → EReal) (k : ℕ) (s : Fin 4096) (n : Fin 512) : EReal :=
  if k ≤ s.val then u ⟨s.val - k, by omega⟩ n else 0

/-- How many positions a trailing window of width `w` holds at position `s`. -/
def count (w s : ℕ) : EReal := (((min (s + 1) w : ℕ) : ℝ) : EReal)

/-- The trailing window's mean less the token. -/
def delta (u : Fin 4096 → Fin 512 → EReal) (w : ℕ) (s : Fin 4096) (n : Fin 512) : EReal :=
  Ideal.div (∑ k ∈ Finset.range w, past u k s n) (count w s) - u s n

/-- Group `g`'s window: 2, 4, 8, 16. -/
def width (g : Fin 4) : ℕ := ![2, 4, 8, 16] g

/-- Channel `k` of group `g`. -/
def lane (g : Fin 4) (k : Fin 128) : Fin 512 := ⟨128 * g + k, by omega⟩

/-- One group's product with its matrix, at the group's channel `n`. -/
def grouped (W : Params) (u : Fin 4096 → Fin 512 → EReal) (s : Fin 4096) (g : Fin 4) (n : Fin 128) : EReal :=
  ∑ k : Fin 128, delta u (width g) s (lane g k) * W.pw g k n

/-- One pooled channel. -/
def pooled (W : Params) (u : Fin 4096 → Fin 512 → EReal) (s : Fin 4096) (n : Fin 512) : EReal :=
  grouped W u s ⟨n / 128, by omega⟩ ⟨n % 128, by omega⟩ * W.ps n

/-- A window's count is not zero. -/
theorem count_ne_zero {w s : ℕ} (hw : 0 < w) : count w s ≠ 0 := by
  unfold count
  have h : ((min (s + 1) w : ℕ) : ℝ) ≠ 0 := by
    have : 0 < min (s + 1) w := lt_min (Nat.succ_pos s) hw
    exact_mod_cast this.ne'
  exact_mod_cast h

/-- A window twice as wide is the window beside the same window further back. -/
theorem window_double (f : ℕ → EReal) (w i : ℕ) :
    ∑ k ∈ Finset.range w, f (i - k) + ∑ k ∈ Finset.range w, f (i - w - k) = ∑ k ∈ Finset.range (w + w), f (i - k) := by
  rw [Finset.sum_range_add]
  simp only [Nat.sub_sub]

end Cert.Mix

end
-- ==== Proof.MixRow.lean ====
/-
  The reference of the first call, read at a position and a channel.
-/
module

public import proofs.«01_k».proof.Proof.Gen.MixingIdeal.Run
public import proofs.«01_k».proof.Proof.MixSpec

@[expose] public section

set_option maxRecDepth 16384

noncomputable section

namespace Cert.MixingIdeal.Row

open Idealize.ShloMosaic Idealize.ShloMosaic.TcCoe Idealize.SL.Sem
open Cert.MixingIdeal Cert.MixingIdeal.Gen Cert.MixingIdeal.Value Cert.Ffn Cert.Mix

variable (V : Valuation τ sig (Elt Ideal))

/-- The parameters, read from the arguments. -/
def W : Params where
  g n := V (Proc.devRef .tc main_arg1) (ix1 n)
  win k n := V (Proc.devRef .tc main_arg2) (ix2 k n)
  pw g k n := V (Proc.devRef .tc main_arg3) (ix3 g k n)
  ps n := V (Proc.devRef .tc main_arg4) (ix1 n)

/-- The row of position `s` of batch row `b`. -/
def xr (b : Fin 8) (s : Fin 4096) (k : Fin 1024) : EReal := V (Proc.devRef .tc main_arg0) (ix3 b s k)

/-- The reference's projection. -/
theorem v13_at (b : Fin 8) (s : Fin 4096) (n : Fin 2048) : res_main_v13 (F := Ideal) V (ix3 b s n) = lin (W V) (xr V b s) n := by
  pointwise [res_main_v13, lin, rms, xr, W]

/-- The reference's query, key and value channels. -/
theorem v18_at (b : Fin 8) (s : Fin 4096) (n : Fin 1536) : res_main_v18 (F := Ideal) V (ix3 b s n) = qkv (W V) (xr V b s) n := by
  unfold qkv
  pointwise [res_main_v18, v13_at]
  by_cases h : n.val < 512
  · rw [dif_pos h, if_pos h]
  · rw [dif_neg h, if_neg h]
    exact congrArg (lin (W V) (xr V b s)) (Fin.ext (show 512 + (n.val - 512) = n.val by omega))

/-- The tokens. -/
def u (b : Fin 8) (s : Fin 4096) (n : Fin 512) : EReal := tok (W V) (xr V b s) n

/-- The reference's tokens. -/
theorem v19_at (b : Fin 8) (s : Fin 4096) (n : Fin 512) : res_main_v19 (F := Ideal) V (ix3 b s n) = u V b s n := by
  pointwise [res_main_v19, v13_at, u, tok]

/-! The four groups of tokens. -/

theorem v21_at (b : Fin 8) (s : Fin 4096) (n : Fin 128) : res_main_v21 (F := Ideal) V (ix3 b s n) = u V b s (lane 0 n) := by
  pointwise [res_main_v21, v19_at]
  exact congrArg (u V b s) (Fin.ext (show n.val = 128 * 0 + n.val by omega))
theorem v37_at (b : Fin 8) (s : Fin 4096) (n : Fin 128) : res_main_v37 (F := Ideal) V (ix3 b s n) = u V b s (lane 1 n) := by
  pointwise [res_main_v37, v19_at]
  exact congrArg (u V b s) (Fin.ext (show 128 + n.val = 128 * 1 + n.val by omega))
theorem v59_at (b : Fin 8) (s : Fin 4096) (n : Fin 128) : res_main_v59 (F := Ideal) V (ix3 b s n) = u V b s (lane 2 n) := by
  pointwise [res_main_v59, v19_at]
  exact congrArg (u V b s) (Fin.ext (show 256 + n.val = 128 * 2 + n.val by omega))
theorem v93_at (b : Fin 8) (s : Fin 4096) (n : Fin 128) : res_main_v93 (F := Ideal) V (ix3 b s n) = u V b s (lane 3 n) := by
  pointwise [res_main_v93, v19_at]
  exact congrArg (u V b s) (Fin.ext (show 384 + n.val = 128 * 3 + n.val by omega))

/-- An index at least `k` positions into the sequence lies past `k` positions of padding. -/
theorem inside {M : ℕ} (b : Fin 8) (s : Fin 4096) {hM : s.val < M} (n : Fin 128) {k : ℕ} (hs : k ≤ s.val) :
    ∀ a : Fin 3, (![0, k, 0] : Fin 3 → ℕ) a ≤ (ix3 b (⟨s.val, hM⟩ : Fin M) n a).val ∧
      ((ix3 b (⟨s.val, hM⟩ : Fin M) n a).val - (![0, k, 0] : Fin 3 → ℕ) a) % ((![0, 0, 0] : Fin 3 → ℕ) a + 1) = 0 ∧
        ((ix3 b (⟨s.val, hM⟩ : Fin M) n a).val - (![0, k, 0] : Fin 3 → ℕ) a) / ((![0, 0, 0] : Fin 3 → ℕ) a + 1) < S8x4096x128.size a
  | ⟨0, _⟩ => by show 0 ≤ b.val ∧ (b.val - 0) % (0 + 1) = 0 ∧ (b.val - 0) / (0 + 1) < 8; omega
  | ⟨1, _⟩ => by show k ≤ s.val ∧ (s.val - k) % (0 + 1) = 0 ∧ (s.val - k) / (0 + 1) < 4096; omega
  | ⟨2, _⟩ => by show 0 ≤ n.val ∧ (n.val - 0) % (0 + 1) = 0 ∧ (n.val - 0) / (0 + 1) < 128; omega

/-- The padding's value. -/
theorem fill : (FloatOps.sitofp (F := Ideal) FTy.f32 0#32 : EReal) = 0 := by
  show (((0#32 : BitVec 32).toInt : ℝ) : EReal) = 0
  simp

/-- A token `k` positions back: read past the padding, or the padding. -/
theorem shifted {P : Prop} [Decidable P] {v : Fin 4096 → Fin 512 → EReal} {k : ℕ} {s : Fin 4096} {n : Fin 512}
    (hP : P ↔ k ≤ s.val) : (if _ : P then v ⟨s.val - k, Nat.lt_of_le_of_lt (Nat.sub_le _ _) s.isLt⟩ n else FloatOps.sitofp (F := Ideal) FTy.f32 0#32) = past v k s n := by
  unfold past
  by_cases hk : k ≤ s.val
  · rw [dif_pos (hP.2 hk), if_pos hk]
  · rw [dif_neg fun hh => hk (hP.1 hh), if_neg hk]
    exact fill

/-- The window's count. -/
theorem count_at (s : Fin 4096) (w : ℕ) (hw : w < 4096) :
    FloatOps.sitofp (F := Ideal) FTy.f32 (IntOp.minsi (IntOp.addi (res_main_v20 (F := Ideal) V (ix1 s)) 1#32) (BitVec.ofNat 32 w)) = count w s.val := by
  have e : IntOp.addi (res_main_v20 (F := Ideal) V (ix1 s)) 1#32 = BitVec.ofNat 32 (s.val + 1) := by
    pointwise [res_main_v20]
    show BitVec.ofNat 32 s.val + 1#32 = _
    apply BitVec.eq_of_toNat_eq
    simp [BitVec.toNat_add]
  have ti : ∀ a : ℕ, a ≤ 4096 → (BitVec.ofNat 32 a).toInt = (a : ℤ) := fun a ha => by
    rw [BitVec.toInt_ofNat']
    simp [Int.bmod]
    omega
  have e' : (IntOp.minsi (BitVec.ofNat 32 (s.val + 1)) (BitVec.ofNat 32 w)).toInt = ((min (s.val + 1) w : ℕ) : ℤ) := by
    unfold IntOp.minsi
    have hs : (BitVec.ofNat 32 (s.val + 1)).slt (BitVec.ofNat 32 w) = decide (s.val + 1 < w) := by
      rw [BitVec.slt_eq_decide, ti _ (by omega), ti _ (by omega)]
      exact decide_eq_decide.2 (by omega)
    rw [hs]
    by_cases h : s.val + 1 < w
    · rw [decide_eq_true h, if_pos rfl, ti _ (by omega), min_eq_left (by omega)]
    · rw [decide_eq_false h, if_neg (by simp), ti _ (by omega), min_eq_right (by omega)]
  rw [e]
  show ((((IntOp.minsi (BitVec.ofNat 32 (s.val + 1)) (BitVec.ofNat 32 w)).toInt : ℤ) : ℝ) : EReal) = _
  rw [e']
  rfl

/-- The first term of a window is the position's own token. -/
theorem past_zero (v : Fin 4096 → Fin 512 → EReal) (s : Fin 4096) (n : Fin 512) : v s n = past v 0 s n := by
  unfold past
  rw [if_pos (Nat.zero_le _)]
  rfl

/-- A group's product, from its terms. -/
theorem grouped_of {W : Params} {v : Fin 4096 → Fin 512 → EReal} {s : Fin 4096} {g : Fin 4} {n : Fin 128} {a d e : Fin 128 → EReal} {b : EReal}
    (ha : ∀ x, a x = ∑ k ∈ Finset.range (width g), past v k s (lane g x)) (hb : b = count (width g) s.val) (hd : ∀ x, d x = v s (lane g x))
    (he : ∀ x, e x = W.pw g x n) : (∑ x, (Ideal.div (a x) b - d x) * e x) = grouped W v s g n := by
  unfold grouped delta
  simp only [ha, hb, hd, he]

/-! The products of the four groups. -/

theorem g0_at (b : Fin 8) (s : Fin 4096) (n : Fin 128) :
    res_main_v151 (F := Ideal) V (ix3 b s ⟨n.val, by omega⟩) = grouped (W V) (u V b) s 0 n := by
  unfold res_main_v151
  rw [concatenate_cons_apply]
  pointwise [v21_at]
  refine grouped_of ?_ ?_ ?_ ?_
  · intro x
    show _ = ∑ k ∈ Finset.range 2, past (u V b) k s (lane 0 x)
    simp only [Finset.sum_range_succ, Finset.sum_range_zero, zero_add]
    iterate 1 refine Ideal.add_congr ?_ (by exact shifted ⟨fun h => (h 1).1, inside b s x⟩)
    exact past_zero _ _ _
  · exact count_at V s 2 (by omega)
  · exact fun _ => rfl
  · exact fun _ => rfl

theorem g1_at (b : Fin 8) (s : Fin 4096) (n : Fin 128) :
    res_main_v151 (F := Ideal) V (ix3 b s ⟨128 + n.val, by omega⟩) = grouped (W V) (u V b) s 1 n := by
  unfold res_main_v151
  rw [concatenate_cons_apply]
  pointwise [v37_at]
  refine grouped_of ?_ ?_ ?_ ?_
  · intro x
    show _ = ∑ k ∈ Finset.range 4, past (u V b) k s (lane 1 x)
    simp only [Finset.sum_range_succ, Finset.sum_range_zero, zero_add]
    iterate 3 refine Ideal.add_congr ?_ (by exact shifted ⟨fun h => (h 1).1, inside b s x⟩)
    exact past_zero _ _ _
  · exact count_at V s 4 (by omega)
  · exact fun _ => rfl
  · exact fun _ => rfl

theorem g2_at (b : Fin 8) (s : Fin 4096) (n : Fin 128) :
    res_main_v151 (F := Ideal) V (ix3 b s ⟨256 + n.val, by omega⟩) = grouped (W V) (u V b) s 2 n := by
  unfold res_main_v151
  rw [concatenate_cons_apply]
  pointwise [v59_at]
  rw [dif_neg (show ¬256 + n.val < 128 by omega), dif_neg (show ¬256 + n.val - 128 < 128 by omega), dif_pos (show 256 + n.val - 128 - 128 < 128 by omega)]
  refine grouped_of ?_ ?_ ?_ ?_
  · intro x
    show _ = ∑ k ∈ Finset.range 8, past (u V b) k s (lane 2 x)
    simp only [Finset.sum_range_succ, Finset.sum_range_zero, zero_add]
    iterate 7 refine Ideal.add_congr ?_ (by exact shifted ⟨fun h => (h 1).1, inside b s x⟩)
    exact past_zero _ _ _
  · exact count_at V s 8 (by omega)
  · exact fun _ => rfl
  · exact fun x => congrArg (fun q : Fin 128 => (W V).pw 2 x q) (Fin.ext (show 256 + n.val - 128 - 128 = n.val by omega))

theorem g3_at (b : Fin 8) (s : Fin 4096) (n : Fin 128) :
    res_main_v151 (F := Ideal) V (ix3 b s ⟨384 + n.val, by omega⟩) = grouped (W V) (u V b) s 3 n := by
  unfold res_main_v151
  rw [concatenate_cons_apply]
  pointwise [res_main_v150, v93_at]
  rw [dif_neg (show ¬384 + n.val < 128 by omega), dif_neg (show ¬384 + n.val - 128 < 128 by omega), dif_neg (show ¬384 + n.val - 128 - 128 < 128 by omega)]
  refine grouped_of ?_ ?_ ?_ ?_
  · intro x
    show _ = ∑ k ∈ Finset.range 16, past (u V b) k s (lane 3 x)
    simp only [Finset.sum_range_succ, Finset.sum_range_zero, zero_add]
    iterate 15 refine Ideal.add_congr ?_ (by exact shifted ⟨fun h => (h 1).1, inside b s x⟩)
    exact past_zero _ _ _
  · exact count_at V s 16 (by omega)
  · exact fun _ => rfl
  · exact fun x => congrArg (fun q : Fin 128 => (W V).pw 3 x q) (Fin.ext (show 384 + n.val - 128 - 128 - 128 = n.val by omega))

/-- The products of all groups. -/
theorem v151_at (b : Fin 8) (s : Fin 4096) (n : Fin 512) :
    res_main_v151 (F := Ideal) V (ix3 b s n) = grouped (W V) (u V b) s ⟨n / 128, by omega⟩ ⟨n % 128, by omega⟩ := by
  have key : ∀ (g : Fin 4) (r : Fin 128), res_main_v151 (F := Ideal) V (ix3 b s (lane g r)) = grouped (W V) (u V b) s g r := fun g r => by
    match g with
    | ⟨0, _⟩ => exact (congrArg (fun q : Fin 512 => res_main_v151 (F := Ideal) V (ix3 b s q)) (Fin.ext (show 128 * 0 + r.val = r.val by omega))).trans (g0_at V b s r)
    | ⟨1, _⟩ => exact g1_at V b s r
    | ⟨2, _⟩ => exact g2_at V b s r
    | ⟨3, _⟩ => exact g3_at V b s r
  refine (congrArg (fun q : Fin 512 => res_main_v151 (F := Ideal) V (ix3 b s q)) (Fin.ext ?_)).trans (key ⟨n / 128, by omega⟩ ⟨n % 128, by omega⟩)
  show n.val = 128 * (n.val / 128) + n.val % 128
  omega

/-! The reference's results. -/

/-- A narrowed array has the same entries. -/
theorem truncf_at {S : Shape} (X : FVec Ideal S .f32) (h) (i : S.Idx) : (truncf (F := Ideal) .bf16 X h : FVec Ideal S .bf16) i = X i := rfl

/-- The rows in natural order. -/
theorem r0_at (b : Fin 8) (s : Fin 4096) (n : Fin 1536) :
    (truncf (F := Ideal) .bf16 (res_main_v18 (F := Ideal) V) bitsLt_bf16_f32 : FVec Ideal S8x4096x1536 .bf16) (ix3 b s n) = qkv (W V) (xr V b s) n := by
  pointwise [v18_at]

/-- An array whose rows are regrouped by residue class: row `i` of class `k` of `c` is row `c i + k`. -/
theorem classes_apply {α : Type} {B S c r w : ℕ} (x : (⟨3, ![B, S, w]⟩ : Shape).Idx → α) (hc : (⟨3, ![B, S, w]⟩ : Shape).ShapeCasts ⟨4, ![B, r, c, w]⟩)
    (ht : (⟨4, ![B, r, c, w]⟩ : Shape).Transposes [0, 2, 1, 3] ⟨4, ![B, c, r, w]⟩) (b : Fin B) (k : Fin c) (i : Fin r) (n : Fin w) (s : Fin S)
    (hs : s.val = c * i.val + k.val) (hS : S = r * c) :
    transpose ⟨4, ![B, c, r, w]⟩ [0, 2, 1, 3] (shapeCast ⟨4, ![B, r, c, w]⟩ x hc) ht (ix4 b k i n) = x (ix3 b s n) := by
  refine (transpose_apply [0, 2, 1, 3] _ ht (ix4 b k i n) (ix4 b i k n) fun a => match a with | ⟨0, _⟩ => rfl | ⟨1, _⟩ => rfl | ⟨2, _⟩ => rfl | ⟨3, _⟩ => rfl).trans ?_
  refine shapeCast_apply x hc (ix4 b i k n) (ix3 b s n) ?_
  rw [Shape.rowMajor_val_three, Shape.rowMajor_val_four]
  show (b.val * S + s.val) * w + n.val = ((b.val * r + i.val) * c + k.val) * w + n.val
  rw [hs, hS]
  ring

/-- The rows in classes of four. -/
theorem r1_at (b : Fin 8) (k : Fin 4) (r : Fin 1024) (n : Fin 1536) :
    (truncf (F := Ideal) .bf16 (transpose S8x4x1024x1536 [0, 2, 1, 3] (shapeCast _ (res_main_v18 (F := Ideal) V) shapeCasts_S8x4096x1536_S8x1024x4x1536)
      transposes_S8x1024x4x1536_S8x4x1024x1536_0_2_1_3) bitsLt_bf16_f32 : FVec Ideal S8x4x1024x1536 .bf16) (ix4 b k r n)
    = qkv (W V) (xr V b ⟨4 * r.val + k.val, by omega⟩) n :=
  (truncf_at _ _ _).trans ((classes_apply (B := 8) (S := 4096) (c := 4) (r := 1024) (w := 1536) (res_main_v18 (F := Ideal) V) shapeCasts_S8x4096x1536_S8x1024x4x1536
    transposes_S8x1024x4x1536_S8x4x1024x1536_0_2_1_3 b k r n ⟨4 * r.val + k.val, by omega⟩ rfl (by norm_num)).trans (v18_at V b _ n))

/-- The rows in classes of sixteen. -/
theorem r2_at (b : Fin 8) (k : Fin 16) (r : Fin 256) (n : Fin 1536) :
    (truncf (F := Ideal) .bf16 (transpose S8x16x256x1536 [0, 2, 1, 3] (shapeCast _ (res_main_v18 (F := Ideal) V) shapeCasts_S8x4096x1536_S8x256x16x1536)
      transposes_S8x256x16x1536_S8x16x256x1536_0_2_1_3) bitsLt_bf16_f32 : FVec Ideal S8x16x256x1536 .bf16) (ix4 b k r n)
    = qkv (W V) (xr V b ⟨16 * r.val + k.val, by omega⟩) n :=
  (truncf_at _ _ _).trans ((classes_apply (B := 8) (S := 4096) (c := 16) (r := 256) (w := 1536) (res_main_v18 (F := Ideal) V) shapeCasts_S8x4096x1536_S8x256x16x1536
    transposes_S8x256x16x1536_S8x16x256x1536_0_2_1_3 b k r n ⟨16 * r.val + k.val, by omega⟩ rfl (by norm_num)).trans (v18_at V b _ n))

/-- The pooled tokens. -/
theorem r3_at (b : Fin 8) (s : Fin 4096) (n : Fin 512) :
    (truncf (F := Ideal) .bf16 (mulf (res_main_v151 (F := Ideal) V) (broadcastInDim S8x4096x512 ![0, 1, 2] bcast_S1x1x512_S8x4096x512_0_1_2
      (broadcastInDim S1x1x512 ![2] bcast_S512_S1x1x512_2 (V (Proc.devRef .tc main_arg4))))) bitsLt_bf16_f32 : FVec Ideal S8x4096x512 .bf16) (ix3 b s n)
    = pooled (W V) (u V b) s n := by
  pointwise [v151_at, pooled]
  rfl

end Cert.MixingIdeal.Row

end
-- ==== Proof.MixPay.lean ====
/-
  The first call's arithmetic at a row of a block of 1024 rows and a channel.
-/
module

public import Idealize.ShloMosaic.Lib.KernelVsHost
public import Idealize.ShloMosaic.Lib.IdealHost
public import proofs.«01_k».proof.Proof.Gen.ProjectionIdeal.Skeleton
public import proofs.«01_k».proof.Proof.MixSpec

@[expose] public section

set_option maxRecDepth 16384

noncomputable section

namespace Cert.ProjectionIdeal.Pay

open Idealize.ShloMosaic Idealize.ShloMosaic.TcCoe Idealize.SL.Sem
open Cert.ProjectionIdeal Cert.ProjectionIdeal.Gen Cert.Ffn Cert.Mix

/-- The normalised rows. -/
abbrev hn (x : Vec Ideal S1x1024x1024 .f32) (g : Vec Ideal S1x1024 .f32) : FVec Ideal S1024x1024 .bf16 :=
  k0_pay11 (k0_pay8 x) (k0_pay9 g) (k0_pay10 x)

/-- A normalised row, scaled by its gains. -/
theorem norm_at (x : Vec Ideal S1x1024x1024 .f32) (g : Vec Ideal S1x1024 .f32) (r : Fin 1024) (n : Fin 1024) :
    hn x g (ix2 r n) = rms (fun k => x (ix3 0 r k)) (fun k => g (ix2 0 k)) n := by
  pointwise [hn, k0_pay11, k0_pay8, k0_pay9, k0_pay10, rms]

/-- The pooled channels of the block: a product with the last columns of the input projection. -/
theorem tok_at (v19 : FVec Ideal S1024x1024 .f32) (v21 : FVec Ideal S1x1024 .f32) (v23 : FVec Ideal S1024 .f32) (w : Vec Ideal S1024x512 .bf16)
    (r : Fin 1024) (n : Fin 512) : k0_pay12 v19 v21 v23 w (ix2 r n) = ∑ k, k0_pay11 v19 v21 v23 (ix2 r k) * w (ix2 k n) := by
  generalize hh : k0_pay11 v19 v21 v23 = h
  pointwise [k0_pay12, hh]

/-- The query channels: a product, scaled. -/
theorem q_at (h : FVec Ideal S1024x1024 .bf16) (w : Vec Ideal S1024x512 .bf16) (r : Fin 1024) (n : Fin 512) :
    k0_pay27 h w (ix2 r n) = (∑ k, h (ix2 r k) * w (ix2 k n)) * Ideal.ofBits .f32 0x3E38AA3B#32 := by
  pointwise [k0_pay27]

/-- The key or value channels: a product. -/
theorem kv_at (h : FVec Ideal S1024x1024 .bf16) (w : Vec Ideal S1024x512 .bf16) (r : Fin 1024) (n : Fin 512) :
    k0_pay156 h w (ix2 r n) = ∑ k, h (ix2 r k) * w (ix2 k n) := by
  pointwise [k0_pay156]

/-- The rows as stored in their natural order. -/
theorem nat_at (z : FVec Ideal S1024x512 .bf16) (r : Fin 1024) (n : Fin 512) : k0_pay29 z (ix3 0 r n) = z (ix2 r n) := by
  pointwise [k0_pay29]

/-- The same, rounded first. -/
theorem nat_at' (h : FVec Ideal S1024x1024 .bf16) (w : Vec Ideal S1024x512 .bf16) (r : Fin 1024) (n : Fin 512) :
    k0_pay157 h w (ix3 0 r n) = k0_pay156 h w (ix2 r n) := by
  generalize hz : k0_pay156 h w = z
  pointwise [k0_pay157, hz]

/-- A lane tile of the rows, as staged: the four tiles. -/
theorem tile0 (z : FVec Ideal S1024x512 .f32) (r : Fin 1024) (l : Fin 128) : k0_pay30 z (ix3 0 r l) = z (ix2 r ⟨l, by omega⟩) := by
  pointwise [k0_pay30]
/-- The second tile. -/
theorem tile1 (z : FVec Ideal S1024x512 .f32) (r : Fin 1024) (l : Fin 128) : k0_pay63 z (ix3 0 r l) = z (ix2 r ⟨128 + l, by omega⟩) := by
  pointwise [k0_pay63]
/-- The third tile. -/
theorem tile2 (z : FVec Ideal S1024x512 .f32) (r : Fin 1024) (l : Fin 128) : k0_pay94 z (ix3 0 r l) = z (ix2 r ⟨256 + l, by omega⟩) := by
  pointwise [k0_pay94]
/-- The last tile. -/
theorem tile3 (z : FVec Ideal S1024x512 .f32) (r : Fin 1024) (l : Fin 128) : k0_pay125 z (ix3 0 r l) = z (ix2 r ⟨384 + l, by omega⟩) := by
  pointwise [k0_pay125]

/-- Storing a class of four changes only the shape, -/
theorem c4_at (v : Vec Ideal S1x256x128 .f32) (i : Fin 256) (l : Fin 128) : k0_pay32 v (ix4 0 0 i l) = v (ix3 0 i l) := by
  pointwise [k0_pay32, k0_pay31]
/-- staging it likewise, -/
theorem s4_at (v : Vec Ideal S1x256x128 .f32) (i : Fin 256) (l : Fin 128) : k0_pay33 v (ix3 0 i l) = v (ix3 0 i l) := by
  pointwise [k0_pay33, k0_pay31]
/-- and storing a class of sixteen. -/
theorem c16_at (v : Vec Ideal S1x64x128 .f32) (i : Fin 64) (l : Fin 128) : k0_pay44 v (ix4 0 0 i l) = v (ix3 0 i l) := by
  pointwise [k0_pay44]

/-- The weights are copied. -/
theorem cast_wo (v : Vec Ideal S32x1024 .f32) : k0_pay3 v = v := rfl
/-- The up projection is copied. -/
theorem cast_wup (v : Vec Ideal S32x5632 .f32) : k0_pay4 v = v := rfl
/-- The down projection is copied. -/
theorem cast_wdn (v : Vec Ideal S128x1024 .f32) : k0_pay5 v = v := rfl
/-- The gate matrix is copied. -/
theorem cast_wg (v : Vec Ideal S32x1024 .f32) : k0_pay6 v = v := rfl
/-- The embedding matrix is copied. -/
theorem cast_wple (v : Vec Ideal S16x1024 .f32) : k0_pay7 v = v := rfl

/-- The rows kept for the next block are the last sixteen. -/
theorem kept_at (v19 : FVec Ideal S1024x1024 .f32) (v21 : FVec Ideal S1x1024 .f32) (v23 : FVec Ideal S1024 .f32) (w : Vec Ideal S1024x512 .bf16)
    (i : Fin 16) (n : Fin 512) : k0_pay13 v19 v21 v23 w (ix2 i n) = k0_pay12 v19 v21 v23 w (ix2 ⟨1008 + i.val, by omega⟩ n) := by
  generalize hu : k0_pay12 v19 v21 v23 w = u
  pointwise [k0_pay13, hu]

/-- The history starts at zero. -/
theorem zero_at (i : Fin 16) (n : Fin 512) : k0_pay2 (F := Ideal) (ix2 i n) = 0 := by
  pointwise [k0_pay2]

/-! The trailing windows, over the sixteen rows of history and the block's own. -/

/-- The rows with their history before them. -/
def ext (car : Fin 16 → Fin 512 → EReal) (U : Fin 1024 → Fin 512 → EReal) (n : Fin 512) (i : ℕ) : EReal :=
  if h : i < 16 then car ⟨i, h⟩ n else if h' : i - 16 < 1024 then U ⟨i - 16, h'⟩ n else 0

/-- A rotation by less than the row's index reads that many rows back. -/
theorem rot_at {N : ℕ} (e : (⟨2, ![1040, N]⟩ : Shape).Idx → EReal) (sb : BitVec 32) (s : ℕ) (hs : sb.toNat = s) (hs' : s < 1040)
    (h : (⟨2, ![1040, N]⟩ : Shape).Rotates 0 none) (i : Fin 1040) (hi : s ≤ i.val) (n : Fin N) :
    dynamicRotate 0 sb none e h (ix2 i n) = e (ix2 ⟨i.val - s, by omega⟩ n) := by
  refine dynamicRotate_apply 0 sb e h _ _ fun b => ?_
  match b with
  | ⟨0, _⟩ =>
    show i.val - s = if (0 : Fin 2) = 0 then (i.val + 1040 - sb.toNat % 1040) % 1040 else i.val
    rw [if_pos rfl, hs]
    omega
  | ⟨1, _⟩ => rfl

section
variable {v19 : FVec Ideal S1024x1024 .f32} {v21 : FVec Ideal S1x1024 .f32} {v23 : FVec Ideal S1024 .f32} {w : Vec Ideal S1024x512 .bf16}
  {car : Fin 16 → Fin 512 → EReal} {U : Fin 1024 → Fin 512 → EReal}

/-- The block's tokens behind the history. -/
theorem ext_at (hU : ∀ r n, k0_pay12 v19 v21 v23 w (ix2 r n) = U r n) {v38 : Vec Ideal S16x512 .f32} (hc : ∀ i n, v38 (ix2 i n) = car i n)
    (i : Fin 1040) (n : Fin 512) :
    concatenate S1040x512 0 [⟨S16x512, v38⟩, ⟨S1024x512, k0_pay12 v19 v21 v23 w⟩] concatenates_S16x512_S1024x512_S1040x512_d0 (ix2 i n)
    = ext car U n i.val := by
  generalize k0_pay12 v19 v21 v23 w = u at hU
  unfold ext
  pointwise
  split
  · exact hc _ n
  · rw [dif_pos (show i.val - 16 < 1024 by omega)]
    exact hU _ n

/-- Windows of two. -/
theorem sum2_at (hU : ∀ r n, k0_pay12 v19 v21 v23 w (ix2 r n) = U r n) {v38 : Vec Ideal S16x512 .f32} (hc : ∀ i n, v38 (ix2 i n) = car i n)
    (i : Fin 1040) (hi : 1 ≤ i.val) (n : Fin 512) :
    k0_pay14 v19 v21 v23 w v38 (ix2 i n) = ∑ k ∈ Finset.range 2, ext car U n (i.val - k) := by
  have e := ext_at hU hc
  unfold k0_pay14
  generalize concatenate S1040x512 0 [⟨S16x512, v38⟩, ⟨S1024x512, k0_pay12 v19 v21 v23 w⟩] concatenates_S16x512_S1024x512_S1040x512_d0 = E at e
  refine (congrArg₂ (· + ·) (e i n) ((rot_at E 1#32 1 rfl (by omega) _ i hi n).trans (e _ n))).trans ?_
  rw [Finset.sum_range_succ, Finset.sum_range_one]
  rfl

/-- Windows of four, from the second group on. -/
theorem sum4_at (hU : ∀ r n, k0_pay12 v19 v21 v23 w (ix2 r n) = U r n) {v38 : Vec Ideal S16x512 .f32} (hc : ∀ i n, v38 (ix2 i n) = car i n)
    (i : Fin 1040) (hi : 3 ≤ i.val) (n : Fin 384) :
    k0_pay15 v19 v21 v23 w v38 (ix2 i n) = ∑ k ∈ Finset.range 4, ext car U ⟨128 + n, by omega⟩ (i.val - k) := by
  have e := sum2_at hU hc
  unfold k0_pay15
  generalize k0_pay14 v19 v21 v23 w v38 = S at e
  have e' : ∀ i n, extractStridedSlice S1040x384 ![0, 128] S slices_S1040x512_o0_128_S1040x384 (ix2 i n) = S (ix2 i ⟨128 + n, by omega⟩) := by
    intro i n; pointwise
  generalize extractStridedSlice S1040x384 ![0, 128] S slices_S1040x512_o0_128_S1040x384 = T at e'
  refine (congrArg₂ (· + ·) ((e' i n).trans (e i (by omega) _))
    ((rot_at T 2#32 2 rfl (by omega) _ i (by omega) n).trans ((e' _ n).trans (e _ (by show 1 ≤ i.val - 2; omega) _)))).trans ?_
  exact window_double _ 2 i.val

/-- Windows of eight, from the third group on. -/
theorem sum8_at (hU : ∀ r n, k0_pay12 v19 v21 v23 w (ix2 r n) = U r n) {v38 : Vec Ideal S16x512 .f32} (hc : ∀ i n, v38 (ix2 i n) = car i n)
    (i : Fin 1040) (hi : 7 ≤ i.val) (n : Fin 256) :
    k0_pay16 v19 v21 v23 w v38 (ix2 i n) = ∑ k ∈ Finset.range 8, ext car U ⟨128 + (128 + n), by omega⟩ (i.val - k) := by
  have e := sum4_at hU hc
  unfold k0_pay16
  generalize k0_pay15 v19 v21 v23 w v38 = S at e
  have e' : ∀ i n, extractStridedSlice S1040x256 ![0, 128] S slices_S1040x384_o0_128_S1040x256 (ix2 i n) = S (ix2 i ⟨128 + n, by omega⟩) := by
    intro i n; pointwise
  generalize extractStridedSlice S1040x256 ![0, 128] S slices_S1040x384_o0_128_S1040x256 = T at e'
  refine (congrArg₂ (· + ·) ((e' i n).trans (e i (by omega) _))
    ((rot_at T 4#32 4 rfl (by omega) _ i (by omega) n).trans ((e' _ n).trans (e _ (by show 3 ≤ i.val - 4; omega) _)))).trans ?_
  exact window_double _ 4 i.val

/-- The first group's windows at the block's rows. -/
theorem win0_at (hU : ∀ r n, k0_pay12 v19 v21 v23 w (ix2 r n) = U r n) {v38 : Vec Ideal S16x512 .f32} (hc : ∀ i n, v38 (ix2 i n) = car i n)
    (r : Fin 1024) (n : Fin 128) :
    k0_pay17 v19 v21 v23 w v38 (ix2 r n) = ∑ k ∈ Finset.range 2, ext car U ⟨n, by omega⟩ (16 + r.val - k) := by
  have e := sum2_at hU hc
  unfold k0_pay17
  generalize k0_pay14 v19 v21 v23 w v38 = S at e
  refine Eq.trans ?_ (e ⟨16 + r.val, by omega⟩ (by show 1 ≤ 16 + r.val; omega) ⟨n, by omega⟩)
  pointwise

/-- The second group's windows at the block's rows. -/
theorem win1_at (hU : ∀ r n, k0_pay12 v19 v21 v23 w (ix2 r n) = U r n) {v38 : Vec Ideal S16x512 .f32} (hc : ∀ i n, v38 (ix2 i n) = car i n)
    (r : Fin 1024) (n : Fin 128) :
    k0_pay18 v19 v21 v23 w v38 (ix2 r n) = ∑ k ∈ Finset.range 4, ext car U ⟨128 + n, by omega⟩ (16 + r.val - k) := by
  have e := sum4_at hU hc
  unfold k0_pay18
  generalize k0_pay15 v19 v21 v23 w v38 = S at e
  refine Eq.trans ?_ (e ⟨16 + r.val, by omega⟩ (by show 3 ≤ 16 + r.val; omega) ⟨n, by omega⟩)
  pointwise

/-- The third group's windows at the block's rows. -/
theorem win2_at (hU : ∀ r n, k0_pay12 v19 v21 v23 w (ix2 r n) = U r n) {v38 : Vec Ideal S16x512 .f32} (hc : ∀ i n, v38 (ix2 i n) = car i n)
    (r : Fin 1024) (n : Fin 128) :
    k0_pay19 v19 v21 v23 w v38 (ix2 r n) = ∑ k ∈ Finset.range 8, ext car U ⟨128 + (128 + n), by omega⟩ (16 + r.val - k) := by
  have e := sum8_at hU hc
  unfold k0_pay19
  generalize k0_pay16 v19 v21 v23 w v38 = S at e
  refine Eq.trans ?_ (e ⟨16 + r.val, by omega⟩ (by show 7 ≤ 16 + r.val; omega) ⟨n, by omega⟩)
  pointwise

/-- The last group's windows at the block's rows. -/
theorem win3_at (hU : ∀ r n, k0_pay12 v19 v21 v23 w (ix2 r n) = U r n) {v38 : Vec Ideal S16x512 .f32} (hc : ∀ i n, v38 (ix2 i n) = car i n)
    (r : Fin 1024) (n : Fin 128) :
    k0_pay20 v19 v21 v23 w v38 (ix2 r n) = ∑ k ∈ Finset.range 16, ext car U ⟨128 + (128 + (128 + n)), by omega⟩ (16 + r.val - k) := by
  have e := sum8_at hU hc
  unfold k0_pay20
  generalize k0_pay16 v19 v21 v23 w v38 = S at e
  have e' : ∀ i n, extractStridedSlice S1040x128 ![0, 128] S slices_S1040x256_o0_128_S1040x128 (ix2 i n) = S (ix2 i ⟨128 + n, by omega⟩) := by
    intro i n; pointwise
  generalize extractStridedSlice S1040x128 ![0, 128] S slices_S1040x256_o0_128_S1040x128 = T at e'
  have hs : ∀ D : FVec Ideal S1040x128 .f32, extractStridedSlice S1024x128 ![16, 0] D slices_S1040x128_o16_0_S1024x128 (ix2 r n)
      = D (ix2 ⟨16 + r.val, by omega⟩ n) := by
    intro D; pointwise
  refine (hs _).trans ((congrArg₂ (· + ·) ((e' _ n).trans (e _ (by show 7 ≤ 16 + r.val; omega) _))
    ((rot_at T 8#32 8 rfl (by omega) _ _ (by show 8 ≤ 16 + r.val; omega) n).trans
      ((e' _ n).trans (e _ (by show 7 ≤ 16 + r.val - 8; omega) _)))).trans ?_)
  exact window_double _ 8 (16 + r.val)

end

/-! The means less the tokens. -/

/-- The position of a block's row, counted from one. -/
theorem index_at {q : ℕ} (hq : q < 4) (r : Fin 1024) : (k0_pay21 (BitVec.ofNat 32 q) (ix2 r 0)).toInt = (1024 * q + r.val + 1 : ℕ) := by
  have e : k0_pay21 (BitVec.ofNat 32 q) (ix2 r 0) = BitVec.ofNat 32 (1024 * q + r.val + 1) := by
    pointwise [k0_pay21]
    show BitVec.ofNat 32 q * 1024#32 + BitVec.ofNat 32 r.val + 1#32 = _
    apply BitVec.eq_of_toNat_eq
    simp [BitVec.toNat_add, BitVec.toNat_mul]
    omega
  rw [e, BitVec.toInt_ofNat']
  simp [Int.bmod]
  omega

end Cert.ProjectionIdeal.Pay

end
-- ==== Proof.MixPool.lean ====
/-
  The pooling of the first call, at a row and a channel: the window's mean less the token, and the product with a group's matrix.
-/
module

public import proofs.«01_k».proof.Proof.MixPay

@[expose] public section

set_option maxRecDepth 16384

noncomputable section

namespace Cert.ProjectionIdeal.Pool

open Idealize.ShloMosaic Idealize.ShloMosaic.TcCoe Idealize.SL.Sem
open Cert.ProjectionIdeal Cert.ProjectionIdeal.Gen Cert.Ffn Cert.Mix Cert.ProjectionIdeal.Pay

/-- The windows' widths as written in the program. -/
theorem two : Ideal.ofBits .f32 0x40000000#32 = (((2 : ℕ) : ℝ) : EReal) := by
  simp [Ideal.ofBits, Ideal.ieee, -EReal.coe_mul]; norm_num
/-- Four. -/
theorem four : Ideal.ofBits .f32 0x40800000#32 = (((4 : ℕ) : ℝ) : EReal) := by
  simp [Ideal.ofBits, Ideal.ieee, -EReal.coe_mul]; norm_num
/-- Eight. -/
theorem eight : Ideal.ofBits .f32 0x41000000#32 = (((8 : ℕ) : ℝ) : EReal) := by
  simp [Ideal.ofBits, Ideal.ieee, -EReal.coe_mul]; norm_num
/-- Sixteen. -/
theorem sixteen : Ideal.ofBits .f32 0x41800000#32 = (((16 : ℕ) : ℝ) : EReal) := by
  simp [Ideal.ofBits, Ideal.ieee, -EReal.coe_mul]; norm_num

/-- The window's mean less the token, as the kernel takes it: the sum times one over the count. -/
theorem mean_eq {S u : EReal} {w s : ℕ} (hw : 0 < w) {b : BitVec 32} (hb : b.toInt = (s + 1 : ℕ)) {K : EReal} (hK : K = ((w : ℝ) : EReal)) :
    S * Ideal.div 1 (min (FloatOps.sitofp (F := Ideal) FTy.f32 b) K) - u = Ideal.div S (Mix.count w s) - u := by
  have hc : min (FloatOps.sitofp (F := Ideal) FTy.f32 b) K = Mix.count w s := by
    show min (((b.toInt : ℤ) : ℝ) : EReal) K = _
    rw [hb, hK]
    unfold Mix.count
    rw [Nat.cast_min, EReal.coe_strictMono.monotone.map_min]
    norm_cast
  rw [hc, Ideal.mul_one_div (count_ne_zero hw)]

/-- The first group. -/
theorem mean0_at (u : FVec Ideal S1024x512 .f32) (S : FVec Ideal S1024x128 .f32) (v : IVec S1024x1 32) (r : Fin 1024) (n : Fin 128) {s : ℕ}
    (hv : (v (ix2 r 0)).toInt = (s + 1 : ℕ)) :
    k0_pay23 (F := Ideal) u S v (ix2 r n) = Ideal.div (S (ix2 r n)) (Mix.count 2 s) - u (ix2 r ⟨n, by omega⟩) := by
  pointwise [k0_pay23, k0_pay22]
  exact mean_eq (by omega) hv two
/-- The second. -/
theorem mean1_at (u : FVec Ideal S1024x512 .f32) (S : FVec Ideal S1024x128 .f32) (v : IVec S1024x1 32) (r : Fin 1024) (n : Fin 128) {s : ℕ}
    (hv : (v (ix2 r 0)).toInt = (s + 1 : ℕ)) :
    k0_pay24 (F := Ideal) u S v (ix2 r n) = Ideal.div (S (ix2 r n)) (Mix.count 4 s) - u (ix2 r ⟨128 + n, by omega⟩) := by
  pointwise [k0_pay24, k0_pay22]
  exact mean_eq (by omega) hv four
/-- The third. -/
theorem mean2_at (u : FVec Ideal S1024x512 .f32) (S : FVec Ideal S1024x128 .f32) (v : IVec S1024x1 32) (r : Fin 1024) (n : Fin 128) {s : ℕ}
    (hv : (v (ix2 r 0)).toInt = (s + 1 : ℕ)) :
    k0_pay25 (F := Ideal) u S v (ix2 r n) = Ideal.div (S (ix2 r n)) (Mix.count 8 s) - u (ix2 r ⟨256 + n, by omega⟩) := by
  pointwise [k0_pay25, k0_pay22]
  exact mean_eq (by omega) hv eight
/-- The last. -/
theorem mean3_at (u : FVec Ideal S1024x512 .f32) (S : FVec Ideal S1024x128 .f32) (v : IVec S1024x1 32) (r : Fin 1024) (n : Fin 128) {s : ℕ}
    (hv : (v (ix2 r 0)).toInt = (s + 1 : ℕ)) :
    k0_pay26 (F := Ideal) u S v (ix2 r n) = Ideal.div (S (ix2 r n)) (Mix.count 16 s) - u (ix2 r ⟨384 + n, by omega⟩) := by
  pointwise [k0_pay26, k0_pay22]
  exact mean_eq (by omega) hv sixteen

/-- A group's product, scaled. -/
theorem group_at (d : FVec Ideal S1024x128 .bf16) (P : Vec Ideal S1x128x128 .bf16) (p : Vec Ideal S1x128 .f32) (r : Fin 1024) (n : Fin 128) :
    k0_pay414 d P p (ix3 0 r n) = (∑ k, d (ix2 r k) * P (ix3 0 k n)) * p (ix2 0 n) := by
  pointwise [k0_pay414]

end Cert.ProjectionIdeal.Pool

end
-- ==== Proof.MixStage.lean ====
/-
  The regrouping of a block's 1024 rows by residue class. The rows are staged, a lane tile at a time, and read back on every
  fourth row: that gives the classes of four; these are staged in turn, one after another, and read on every fourth row again:
  that gives the classes of sixteen.
-/
module

public import Idealize.ShloMosaic.Lib.Pipeline.ReadBack
public import proofs.«01_k».proof.Proof.MixPay

@[expose] public section

set_option maxRecDepth 16384

noncomputable section

namespace Cert.ProjectionIdeal.Regroup

open Idealize.ShloMosaic Idealize.ShloMosaic.TcCoe Idealize.SL.Sem
open Cert.ProjectionIdeal Cert.ProjectionIdeal.Gen Cert.Ffn Cert.Mix Cert.ProjectionIdeal.Pay

variable {sig : RefSig} {κ : Kind} {sp : Space}

/-- A table of the block's rows and channels, continued by zero. -/
def table {M N : ℕ} (Z : Fin M → Fin N → EReal) (r n : ℕ) : EReal := if h : r < M ∧ n < N then Z ⟨r, h.1⟩ ⟨n, h.2⟩ else 0

/-- The table at a row and a channel. -/
theorem table_at {M N : ℕ} (Z : Fin M → Fin N → EReal) (r : Fin M) (n : Fin N) : table Z r n = Z r n := by
  unfold table
  rw [dif_pos ⟨r.isLt, n.isLt⟩]

/-- The rows as first staged: a lane tile on each leading index, -/
def staged (Z : ℕ → ℕ → EReal) (y : S12x1024x128.Idx) : EReal := Z (y 1).val (128 * (y 0).val + (y 2).val)
/-- as staged again: the classes of four one after another, -/
def staged4 (Z : ℕ → ℕ → EReal) (y : S12x1024x128.Idx) : EReal :=
  Z (4 * ((y 1).val % 256) + (y 1).val / 256) (128 * (y 0).val + (y 2).val)
/-- as stored in their natural order, -/
def rows (N : ℕ) (Z : ℕ → ℕ → EReal) (y : (⟨3, ![1, 1024, N]⟩ : Shape).Idx) : EReal := Z (y 1).val (y 2).val
/-- in classes of four, -/
def rows4 (Z : ℕ → ℕ → EReal) (y : S1x4x256x1536.Idx) : EReal := Z (4 * (y 2).val + (y 1).val) (y 3).val
/-- and in classes of sixteen. -/
def rows16 (Z : ℕ → ℕ → EReal) (y : S1x16x64x1536.Idx) : EReal := Z (16 * (y 2).val + (y 1).val) (y 3).val

/-- One more block of `G`, -/
theorem more {s : Shape} {e : EltTy} {G : s.Idx → Elt Ideal e} {B : Rect s} {w : B.shape.Idx → Elt Ideal e}
    {L : List (View.Piece (Elt Ideal) s e)} (hp : ∀ x : B.shape.Idx, w x = G (B.emb x)) (h : View.PiecesOf G L) :
    View.PiecesOf G (⟨B, w⟩ :: L) := ⟨hp, h⟩
/-- and one fewer. -/
theorem rest {s : Shape} {e : EltTy} {G : s.Idx → Elt Ideal e} {p : View.Piece (Elt Ideal) s e} {L : List (View.Piece (Elt Ideal) s e)}
    (h : View.PiecesOf G (p :: L)) : View.PiecesOf G L := h.2

/-- A read out of blocks of `G`, at a place one of them covers. -/
theorem read_of {s : Shape} {e : EltTy} (v : View sig κ sp s e) {G : s.Idx → Elt Ideal e} {L : List (View.Piece (Elt Ideal) s e)}
    (h : View.PiecesOf G L) (B : LoadRect s) (x : B.shape.Idx) (y : s.Idx) (hy : ∀ a, B.off a + B.stride a * (x a).val = (y a).val)
    (hc : ∃ p ∈ L, y ∈ p.1.set) : v.readCov L B x = G y := by
  rw [View.readCov_eq_canon']
  have e : B.idx x = y := funext fun a => Fin.ext (hy a)
  show View.canon _ (B.idx x) = G y
  rw [e]
  exact View.canon_apply_of_pieces G L h.mem y hc

/-- A place of a unit rectangle. -/
theorem mem_unit {s : Shape} {off size : Fin s.rank → ℕ} {h} (y : s.Idx) (hy : ∀ a, off a ≤ (y a).val ∧ (y a).val < off a + size a) :
    y ∈ (Rect.unit (s := s) off size h).set := by
  refine (LoadRect.mem_set (r := (Rect.unit (s := s) off size h).toLoadRect)).2 fun a => ⟨(y a).val - off a, ?_, ?_⟩
  · have := (hy a).2
    have := (hy a).1
    show (y a).val - off a < size a
    omega
  · have := (hy a).1
    show (y a).val = off a + 1 * ((y a).val - off a)
    omega

/-- A class of four, read out of the staged lane tile. -/
theorem read4 (v : View sig κ sp S12x1024x128 .f32) {Z : ℕ → ℕ → EReal} {j c : ℕ} (hj : j < 12) (hc : c < 4) {hp hb}
    {P : S1x1024x128.Idx → EReal} {L : List (View.Piece (Elt Ideal) S12x1024x128 .f32)}
    (h : View.PiecesOf (staged Z) (⟨Rect.unit (s := S12x1024x128) ![j, 0, 0] S1x1024x128.size hp, P⟩ :: L)) (i : Fin 256) (l : Fin 128) :
    v.readCov (⟨Rect.unit (s := S12x1024x128) ![j, 0, 0] S1x1024x128.size hp, P⟩ :: L)
      (⟨![j, c, 0], S1x256x128.size, ![1, 4, 1], hb⟩ : LoadRect S12x1024x128) (ix3 0 i l) = Z (4 * i.val + c) (128 * j + l.val) := by
  refine (read_of v h _ _ (ix3 ⟨j, hj⟩ ⟨c + 4 * i.val, by omega⟩ l) ?_ ⟨_, List.mem_cons_self, ?_⟩).trans ?_
  · intro a
    match a with
    | ⟨0, _⟩ => rfl
    | ⟨1, _⟩ => rfl
    | ⟨2, _⟩ => show 0 + 1 * l.val = l.val; omega
  · refine mem_unit (h := hp) _ fun a => ?_
    match a with
    | ⟨0, _⟩ => show j ≤ j ∧ j < j + 1; omega
    | ⟨1, _⟩ => show 0 ≤ c + 4 * i.val ∧ c + 4 * i.val < 0 + 1024; omega
    | ⟨2, _⟩ => show 0 ≤ l.val ∧ l.val < 0 + 128; omega
  · show Z (c + 4 * i.val) (128 * j + l.val) = _
    rw [Nat.add_comm c]

/-- A class of sixteen, read out of the staged classes of four. -/
theorem read16 (v : View sig κ sp S12x1024x128 .f32) {Z : ℕ → ℕ → EReal} {j q : ℕ} (c b : ℕ) (hq : q = 256 * c + b) (hj : j < 12) (hc : c < 4) (hb' : b < 4)
    {h0 h1 h2 h3 hb} {P0 P1 P2 P3 : S1x256x128.Idx → EReal} {L : List (View.Piece (Elt Ideal) S12x1024x128 .f32)}
    (h : View.PiecesOf (staged4 Z) (⟨Rect.unit (s := S12x1024x128) ![j, 768, 0] S1x256x128.size h3, P3⟩ ::
      ⟨Rect.unit (s := S12x1024x128) ![j, 512, 0] S1x256x128.size h2, P2⟩ :: ⟨Rect.unit (s := S12x1024x128) ![j, 256, 0] S1x256x128.size h1, P1⟩ ::
      ⟨Rect.unit (s := S12x1024x128) ![j, 0, 0] S1x256x128.size h0, P0⟩ :: L)) (i : Fin 64) (l : Fin 128) :
    v.readCov (⟨Rect.unit (s := S12x1024x128) ![j, 768, 0] S1x256x128.size h3, P3⟩ ::
      ⟨Rect.unit (s := S12x1024x128) ![j, 512, 0] S1x256x128.size h2, P2⟩ :: ⟨Rect.unit (s := S12x1024x128) ![j, 256, 0] S1x256x128.size h1, P1⟩ ::
      ⟨Rect.unit (s := S12x1024x128) ![j, 0, 0] S1x256x128.size h0, P0⟩ :: L)
      (⟨![j, q, 0], S1x64x128.size, ![1, 4, 1], hb⟩ : LoadRect S12x1024x128) (ix3 0 i l) = Z (16 * i.val + (4 * b + c)) (128 * j + l.val) := by
  refine (read_of v h _ _ (ix3 ⟨j, hj⟩ ⟨q + 4 * i.val, by omega⟩ l) ?_ ?_).trans ?_
  · intro a
    match a with
    | ⟨0, _⟩ => rfl
    | ⟨1, _⟩ => rfl
    | ⟨2, _⟩ => show 0 + 1 * l.val = l.val; omega
  · have key : ∀ p hp, p = 256 * c → ix3 ⟨j, hj⟩ ⟨q + 4 * i.val, by omega⟩ l ∈ (Rect.unit (s := S12x1024x128) ![j, p, 0] S1x256x128.size hp).set := by
      intro p hp e
      refine mem_unit _ fun a => ?_
      match a with
      | ⟨0, _⟩ => show j ≤ j ∧ j < j + 1; omega
      | ⟨1, _⟩ => show p ≤ q + 4 * i.val ∧ q + 4 * i.val < p + 256; omega
      | ⟨2, _⟩ => show 0 ≤ l.val ∧ l.val < 0 + 128; omega
    have hcs : c = 3 ∨ c = 2 ∨ c = 1 ∨ c = 0 := by omega
    rcases hcs with e | e | e | e
    · exact ⟨_, List.mem_cons_self, key 768 h3 (by omega)⟩
    · exact ⟨_, List.mem_cons_of_mem _ List.mem_cons_self, key 512 h2 (by omega)⟩
    · exact ⟨_, List.mem_cons_of_mem _ (List.mem_cons_of_mem _ List.mem_cons_self), key 256 h1 (by omega)⟩
    · exact ⟨_, List.mem_cons_of_mem _ (List.mem_cons_of_mem _ (List.mem_cons_of_mem _ List.mem_cons_self)), key 0 h0 (by omega)⟩
  · show Z (4 * ((q + 4 * i.val) % 256) + (q + 4 * i.val) / 256) (128 * j + l.val) = _
    congr 1
    omega

/-- The rectangles stored to lie inside their arrays: a staged lane tile, -/
theorem inTile {j : ℕ} (hj : j < 12) : ∀ a : Fin 3, ![j, 0, 0] a + S1x1024x128.size a ≤ S12x1024x128.size a := fun a => by
  match a with
  | ⟨0, _⟩ => show j + 1 ≤ 12; omega
  | ⟨1, _⟩ => show 0 + 1024 ≤ 1024; omega
  | ⟨2, _⟩ => show 0 + 128 ≤ 128; omega
/-- a staged class of four, -/
theorem inTile4 {j c p : ℕ} (hs : j < 12 ∧ c < 4 ∧ p = 256 * c) : ∀ a : Fin 3, ![j, p, 0] a + S1x256x128.size a ≤ S12x1024x128.size a := fun a => by
  match a with
  | ⟨0, _⟩ => show j + 1 ≤ 12; omega
  | ⟨1, _⟩ => show p + 256 ≤ 1024; omega
  | ⟨2, _⟩ => show 0 + 128 ≤ 128; omega
/-- a class of four, -/
theorem in4 {j c o : ℕ} (hs : j < 12 ∧ c < 4 ∧ o = 128 * j) : ∀ a : Fin 4, ![0, c, 0, o] a + S1x1x256x128.size a ≤ S1x4x256x1536.size a := fun a => by
  match a with
  | ⟨0, _⟩ => show 0 + 1 ≤ 1; omega
  | ⟨1, _⟩ => show c + 1 ≤ 4; omega
  | ⟨2, _⟩ => show 0 + 256 ≤ 256; omega
  | ⟨3, _⟩ => show o + 128 ≤ 1536; omega
/-- a class of sixteen, -/
theorem in16 {j c b q k o : ℕ} (hs : j < 12 ∧ c < 4 ∧ b < 4 ∧ q = 256 * c + b ∧ k = 4 * b + c ∧ o = 128 * j) :
    ∀ a : Fin 4, ![0, k, 0, o] a + S1x1x64x128.size a ≤ S1x16x64x1536.size a := fun a => by
  match a with
  | ⟨0, _⟩ => show 0 + 1 ≤ 1; omega
  | ⟨1, _⟩ => show k + 1 ≤ 16; omega
  | ⟨2, _⟩ => show 0 + 64 ≤ 64; omega
  | ⟨3, _⟩ => show o + 128 ≤ 1536; omega
/-- a block of channels. -/
theorem inRow {N M o : ℕ} (ho : o + M ≤ N) : ∀ a : Fin 3, ![0, 0, o] a + (⟨3, ![1, 1024, M]⟩ : Shape).size a ≤ (⟨3, ![1, 1024, N]⟩ : Shape).size a := fun a => by
  match a with
  | ⟨0, _⟩ => show 0 + 1 ≤ 1; omega
  | ⟨1, _⟩ => show 0 + 1024 ≤ 1024; omega
  | ⟨2, _⟩ => show o + M ≤ N; omega

/-- The last store of the whole history is what is left. -/
theorem last_at {h} {P : S16x512.Idx → EReal} {L : List (View.Piece (Elt Ideal) S16x512 .f32)} (j : Fin 16) (n : Fin 512) :
    View.canon (⟨Rect.unit (s := S16x512) ![0, 0] S16x512.size h, P⟩ :: L) (ix2 j n) = P (ix2 j n) := by
  have hy : (ix2 j n : S16x512.Idx) = (Rect.unit (s := S16x512) ![0, 0] S16x512.size h).emb (ix2 j n) := by
    funext a
    apply Fin.ext
    match a with
    | ⟨0, _⟩ => show j.val = 0 + 1 * j.val; omega
    | ⟨1, _⟩ => show n.val = 0 + 1 * n.val; omega
  exact (congrArg _ hy).trans (View.canon_cons_emb _ _ _ _)

/-- A staged lane tile. -/
theorem tile_piece {Z : ℕ → ℕ → EReal} {j : ℕ} (hj : j < 12) {w : S1x1024x128.Idx → EReal}
    (hw : ∀ (r : Fin 1024) (l : Fin 128), w (ix3 0 r l) = Z r.val (128 * j + l.val)) (x : S1x1024x128.Idx) :
    w x = staged Z ((Rect.unit (s := S12x1024x128) ![j, 0, 0] S1x1024x128.size (inTile hj)).emb x) := by
  have h0 : (x 0).val = 0 := by have : (x 0).val < 1 := (x 0).isLt; omega
  have e : x = ix3 0 (x 1) (x 2) := by
    funext a
    match a with
    | ⟨0, _⟩ => exact Fin.ext h0
    | ⟨1, _⟩ => rfl
    | ⟨2, _⟩ => rfl
  refine (congrArg w e).trans ((hw (x 1) (x 2)).trans ?_)
  show _ = Z (0 + 1 * (x 1).val) (128 * (j + 1 * (x 0).val) + (0 + 1 * (x 2).val))
  rw [h0]
  congr 1 <;> omega

/-- A list of stores the last of which is a staged lane tile, -/
def Starts (j : ℕ) (L : List (View.Piece (Elt Ideal) S12x1024x128 .f32)) : Prop :=
  ∃ hp, ∃ P : S1x1024x128.Idx → EReal, ∃ L' : List (View.Piece (Elt Ideal) S12x1024x128 .f32),
    L = ⟨Rect.unit (s := S12x1024x128) ![j, 0, 0] S1x1024x128.size hp, P⟩ :: L'
/-- and one the last of which are a lane tile's four classes. -/
def Starts4 (j : ℕ) (L : List (View.Piece (Elt Ideal) S12x1024x128 .f32)) : Prop :=
  ∃ h0 h1 h2 h3, ∃ P0 P1 P2 P3 : S1x256x128.Idx → EReal, ∃ L' : List (View.Piece (Elt Ideal) S12x1024x128 .f32),
    L = ⟨Rect.unit (s := S12x1024x128) ![j, 768, 0] S1x256x128.size h3, P3⟩ ::
      ⟨Rect.unit (s := S12x1024x128) ![j, 512, 0] S1x256x128.size h2, P2⟩ :: ⟨Rect.unit (s := S12x1024x128) ![j, 256, 0] S1x256x128.size h1, P1⟩ ::
      ⟨Rect.unit (s := S12x1024x128) ![j, 0, 0] S1x256x128.size h0, P0⟩ :: L'

/-- The class of four that is stored, -/
theorem piece4 {v : View sig κ sp S12x1024x128 .f32} {Z : ℕ → ℕ → EReal} {j c o : ℕ} (hs : j < 12 ∧ c < 4 ∧ o = 128 * j) {hb}
    {L : List (View.Piece (Elt Ideal) S12x1024x128 .f32)} (hL : Starts j L)
    (h : View.PiecesOf (staged Z) L) (x : S1x1x256x128.Idx) :
    k0_pay32 (v.readCov L
      (⟨![j, c, 0], S1x256x128.size, ![1, 4, 1], hb⟩ : LoadRect S12x1024x128)) x
    = rows4 Z ((Rect.unit (s := S1x4x256x1536) ![0, c, 0, o] S1x1x256x128.size (in4 hs)).emb x) := by
  obtain ⟨hp, P, L, rfl⟩ := hL
  have h0 : (x 0).val = 0 := by have : (x 0).val < 1 := (x 0).isLt; omega
  have h1 : (x 1).val = 0 := by have : (x 1).val < 1 := (x 1).isLt; omega
  have e : x = ix4 0 0 (x 2) (x 3) := by
    funext a
    match a with
    | ⟨0, _⟩ => exact Fin.ext h0
    | ⟨1, _⟩ => exact Fin.ext h1
    | ⟨2, _⟩ => rfl
    | ⟨3, _⟩ => rfl
  refine (congrArg _ e).trans ((c4_at _ _ _).trans ((read4 v hs.1 hs.2.1 h (x 2) (x 3)).trans ?_))
  show _ = Z (4 * (0 + 1 * (x 2).val) + (c + 1 * (x 1).val)) (o + 1 * (x 3).val)
  rw [h1]
  congr 1 <;> omega

/-- and the same class staged again. -/
theorem piece4' {v : View sig κ sp S12x1024x128 .f32} {Z : ℕ → ℕ → EReal} {j c p : ℕ} (hs : j < 12 ∧ c < 4 ∧ p = 256 * c) {hb}
    {L : List (View.Piece (Elt Ideal) S12x1024x128 .f32)} (hL : Starts j L)
    (h : View.PiecesOf (staged Z) L) (x : S1x256x128.Idx) :
    k0_pay33 (v.readCov L
      (⟨![j, c, 0], S1x256x128.size, ![1, 4, 1], hb⟩ : LoadRect S12x1024x128)) x
    = staged4 Z ((Rect.unit (s := S12x1024x128) ![j, p, 0] S1x256x128.size (inTile4 hs)).emb x) := by
  obtain ⟨hp, P, L, rfl⟩ := hL
  have h0 : (x 0).val = 0 := by have : (x 0).val < 1 := (x 0).isLt; omega
  have h1 : (x 1).val < 256 := (x 1).isLt
  have e : x = ix3 0 (x 1) (x 2) := by
    funext a
    match a with
    | ⟨0, _⟩ => exact Fin.ext h0
    | ⟨1, _⟩ => rfl
    | ⟨2, _⟩ => rfl
  refine (congrArg _ e).trans ((s4_at _ _ _).trans ((read4 v hs.1 hs.2.1 h (x 1) (x 2)).trans ?_))
  show _ = Z (4 * ((p + 1 * (x 1).val) % 256) + (p + 1 * (x 1).val) / 256) (128 * (j + 1 * (x 0).val) + (0 + 1 * (x 2).val))
  rw [h0]
  congr 1 <;> omega

/-- The class of sixteen that is stored. -/
theorem piece16 {v : View sig κ sp S12x1024x128 .f32} {Z : ℕ → ℕ → EReal} {j q k o : ℕ} (c b : ℕ)
    (hs : j < 12 ∧ c < 4 ∧ b < 4 ∧ q = 256 * c + b ∧ k = 4 * b + c ∧ o = 128 * j) {hb}
    {L : List (View.Piece (Elt Ideal) S12x1024x128 .f32)} (hL : Starts4 j L)
    (h : View.PiecesOf (staged4 Z) L) (x : S1x1x64x128.Idx) :
    k0_pay44 (v.readCov L
      (⟨![j, q, 0], S1x64x128.size, ![1, 4, 1], hb⟩ : LoadRect S12x1024x128)) x
    = rows16 Z ((Rect.unit (s := S1x16x64x1536) ![0, k, 0, o] S1x1x64x128.size (in16 hs)).emb x) := by
  obtain ⟨h0, h1, h2, h3, P0, P1, P2, P3, L, rfl⟩ := hL
  have e0 : (x 0).val = 0 := by have : (x 0).val < 1 := (x 0).isLt; omega
  have e1 : (x 1).val = 0 := by have : (x 1).val < 1 := (x 1).isLt; omega
  have e : x = ix4 0 0 (x 2) (x 3) := by
    funext a
    match a with
    | ⟨0, _⟩ => exact Fin.ext e0
    | ⟨1, _⟩ => exact Fin.ext e1
    | ⟨2, _⟩ => rfl
    | ⟨3, _⟩ => rfl
  refine (congrArg _ e).trans ((c16_at _ _ _).trans ((read16 v c b hs.2.2.2.1 hs.1 hs.2.1 hs.2.2.1 h (x 2) (x 3)).trans ?_))
  show _ = Z (16 * (0 + 1 * (x 2).val) + (k + 1 * (x 1).val)) (o + 1 * (x 3).val)
  rw [e1]
  congr 1 <;> omega

/-- A block of channels stored in natural order. -/
theorem row_piece {N M o : ℕ} {Z : ℕ → ℕ → EReal} (ho : o + M ≤ N) {w : (⟨3, ![1, 1024, M]⟩ : Shape).Idx → EReal}
    (hw : ∀ (r : Fin 1024) (n : Fin M), w (ix3 0 r n) = Z r.val (o + n.val)) (x : (⟨3, ![1, 1024, M]⟩ : Shape).Idx) :
    w x = rows N Z ((Rect.unit (s := ⟨3, ![1, 1024, N]⟩) ![0, 0, o] (⟨3, ![1, 1024, M]⟩ : Shape).size (inRow ho)).emb x) := by
  have h0 : (x 0).val = 0 := by have : (x 0).val < 1 := (x 0).isLt; omega
  have e : x = ix3 0 (x 1) (x 2) := by
    funext a
    match a with
    | ⟨0, _⟩ => exact Fin.ext h0
    | ⟨1, _⟩ => rfl
    | ⟨2, _⟩ => rfl
  refine (congrArg w e).trans ((hw (x 1) (x 2)).trans ?_)
  show _ = Z (0 + 1 * (x 1).val) (o + 1 * (x 2).val)
  congr 1 <;> omega

end Cert.ProjectionIdeal.Regroup

end
-- ==== Proof.MixBlock.lean ====
/-
  What one grid point of the first call computes, from the arrays it loads: the rows' channels and the pooling.
-/
module

public import proofs.«01_k».proof.Proof.MixPool
public import proofs.«01_k».proof.Proof.MixStage

@[expose] public section

set_option maxRecDepth 16384

noncomputable section

namespace Cert.ProjectionIdeal.Block

open Idealize.ShloMosaic Idealize.ShloMosaic.TcCoe Idealize.SL.Sem
open Cert.ProjectionIdeal Cert.ProjectionIdeal.Gen Cert.Ffn Cert.Mix Cert.ProjectionIdeal.Pay Cert.ProjectionIdeal.Pool Cert.ProjectionIdeal.Regroup

/-- A whole array loaded from a buffer that is held whole. -/
theorem whole {s : Shape} {e : EltTy} {m : Memref sig .tc .vmem s e} (hm : m.IsWhole) (x : Vec Ideal s e) {off : Fin s.rank → ℕ} {h}
    (h0 : ∀ a, off a = 0) : View.readAt (Elt Ideal) m.view (Rect.unit (s := s) off s.size h).toLoadRect (hm.unread x) = x := by
  funext y
  refine (congrFun (hm.read_unread x) _).trans (congrArg x ?_)
  funext a
  apply Fin.ext
  show off a + 1 * (y a).val = (y a).val
  rw [h0, Nat.zero_add, Nat.one_mul]

/-- A block of columns. -/
theorem cols {e : EltTy} {A B N : ℕ} {m : Memref sig .tc .vmem ⟨2, ![A, B]⟩ e} (hm : m.IsWhole) (x : Vec Ideal ⟨2, ![A, B]⟩ e)
    (q : ℕ) {h} (hq : q + N ≤ B) (k : Fin A) (n : Fin N) :
    View.readAt (Elt Ideal) m.view (Rect.unit (s := ⟨2, ![A, B]⟩) ![0, q] (⟨2, ![A, N]⟩ : Shape).size h).toLoadRect (hm.unread x) (ix2 k n)
    = x (ix2 k ⟨q + n.val, by omega⟩) := by
  refine (congrFun (hm.read_unread x) _).trans (congrArg x ?_)
  funext a
  apply Fin.ext
  match a with
  | ⟨0, _⟩ => show 0 + 1 * k.val = k.val; omega
  | ⟨1, _⟩ => show q + 1 * n.val = q + n.val; omega

/-- One matrix of a stack of matrices. -/
theorem slice {e : EltTy} {G A B : ℕ} {m : Memref sig .tc .vmem ⟨3, ![G, A, B]⟩ e} (hm : m.IsWhole) (x : Vec Ideal ⟨3, ![G, A, B]⟩ e)
    (g : Fin G) {h} (k : Fin A) (n : Fin B) :
    View.readAt (Elt Ideal) m.view (Rect.unit (s := ⟨3, ![G, A, B]⟩) ![g.val, 0, 0] (⟨3, ![1, A, B]⟩ : Shape).size h).toLoadRect (hm.unread x) (ix3 0 k n)
    = x (ix3 g k n) := by
  refine (congrFun (hm.read_unread x) _).trans (congrArg x ?_)
  funext a
  apply Fin.ext
  match a with
  | ⟨0, _⟩ => rfl
  | ⟨1, _⟩ => show 0 + 1 * k.val = k.val; omega
  | ⟨2, _⟩ => show 0 + 1 * n.val = n.val; omega

/-- A whole array stored. -/
theorem copied {s : Shape} {e : EltTy} (x : Vec Ideal s e) {off : Fin s.rank → ℕ} {h} (h0 : ∀ a, off a = 0) (z : s.Idx) :
    x z = x ((Rect.unit (s := s) off s.size h).emb z) := by
  refine congrArg x (funext fun a => Fin.ext ?_)
  show (z a).val = off a + 1 * (z a).val
  rw [h0, Nat.zero_add, Nat.one_mul]

/-- The block's rows, as a table. -/
def rowsB (W : Params) (x : Vec Ideal S1x1024x1024 .f32) : ℕ → ℕ → EReal := table fun (r : Fin 1024) (n : Fin 1536) => qkv W (fun k => x (ix3 0 r k)) n
/-- The block's tokens. -/
def tokB (W : Params) (x : Vec Ideal S1x1024x1024 .f32) (r : Fin 1024) (n : Fin 512) : EReal := tok W (fun k => x (ix3 0 r k)) n
/-- A pooling group's means less tokens, from the history and the tokens of block `q`. -/
def deltaB (car : Fin 16 → Fin 512 → EReal) (U : Fin 1024 → Fin 512 → EReal) (q : ℕ) (g : Fin 4) (r : Fin 1024) (k : Fin 128) : EReal :=
  Ideal.div (∑ j ∈ Finset.range (width g), ext car U ⟨128 * g + k, by omega⟩ (16 + r.val - j)) (Mix.count (width g) (1024 * q + r.val))
    - U r ⟨128 * g + k, by omega⟩
/-- A pooled channel. -/
def poolB (W : Params) (car : Fin 16 → Fin 512 → EReal) (U : Fin 1024 → Fin 512 → EReal) (q : ℕ) (r : Fin 1024) (n : Fin 512) : EReal :=
  (∑ k, deltaB car U q ⟨n / 128, by omega⟩ r k * W.pw ⟨n / 128, by omega⟩ k ⟨n % 128, by omega⟩) * W.ps n

section
variable {W : Params} {x0 : Vec Ideal S1x1024x1024 .f32} {x1 : Vec Ideal S1x1024 .f32} {x2 : Vec Ideal S1024x2048 .bf16}
  {arg4 : Memref sig .tc .vmem S1024x2048 .bf16} {harg4 : arg4.IsWhole}

/-- A product of the normalised rows with a block of columns of the input projection. -/
theorem lin_eq (hg : ∀ n, x1 (ix2 0 n) = W.g n) (hw : ∀ k n, x2 (ix2 k n) = W.win k n) {h : FVec Ideal S1024x1024 .bf16} (hh : h = hn x0 x1)
    {a : ℕ} {ia} (ha : a + 512 ≤ 2048) (r : Fin 1024) (n : Fin 512) :
    ∑ k, h (ix2 r k) * View.readAt (Elt Ideal) arg4.view (Rect.unit (s := S1024x2048) ![0, a] S1024x512.size ia).toLoadRect (harg4.unread x2) (ix2 k n)
    = lin W (fun k => x0 (ix3 0 r k)) ⟨a + n.val, by omega⟩ := by
  unfold lin
  refine Finset.sum_congr rfl fun k _ => ?_
  rw [hh, norm_at]
  refine congrArg₂ (· * ·) ?_ ((cols harg4 x2 a ha k n).trans (hw _ _))
  exact congrArg (fun g => rms _ g k) (funext hg)

/-- The query channels. -/
theorem q_rows (hg : ∀ n, x1 (ix2 0 n) = W.g n) (hw : ∀ k n, x2 (ix2 k n) = W.win k n) {h : FVec Ideal S1024x1024 .bf16} (hh : h = hn x0 x1)
    {ia} (r : Fin 1024) (n : Fin 512) :
    k0_pay27 h (View.readAt (Elt Ideal) arg4.view (Rect.unit (s := S1024x2048) ![0, 0] S1024x512.size ia).toLoadRect (harg4.unread x2)) (ix2 r n)
    = rowsB W x0 r.val (0 + n.val) := by
  refine (q_at _ _ r n).trans ?_
  rw [lin_eq hg hw hh (by omega)]
  have e := table_at (fun (r : Fin 1024) (n : Fin 1536) => qkv W (fun k => x0 (ix3 0 r k)) n) r ⟨0 + n.val, by omega⟩
  refine Eq.trans ?_ e.symm
  unfold qkv
  rw [if_pos (show 0 + n.val < 512 by omega)]

/-- The key channels, and the value channels. -/
theorem kv_rows (hg : ∀ n, x1 (ix2 0 n) = W.g n) (hw : ∀ k n, x2 (ix2 k n) = W.win k n) {h : FVec Ideal S1024x1024 .bf16} (hh : h = hn x0 x1)
    {a : ℕ} {ia} (ha : 512 ≤ a) (ha' : a + 512 ≤ 1536) (r : Fin 1024) (n : Fin 512) :
    k0_pay156 h (View.readAt (Elt Ideal) arg4.view (Rect.unit (s := S1024x2048) ![0, a] S1024x512.size ia).toLoadRect (harg4.unread x2)) (ix2 r n)
    = rowsB W x0 r.val (a + n.val) := by
  refine (kv_at _ _ r n).trans ?_
  rw [lin_eq hg hw hh (by omega)]
  have e := table_at (fun (r : Fin 1024) (n : Fin 1536) => qkv W (fun k => x0 (ix3 0 r k)) n) r ⟨a + n.val, by omega⟩
  refine Eq.trans ?_ e.symm
  unfold qkv
  rw [if_neg (show ¬ a + n.val < 512 by omega)]

/-- The tokens. -/
theorem tok_rows (hg : ∀ n, x1 (ix2 0 n) = W.g n) (hw : ∀ k n, x2 (ix2 k n) = W.win k n) {v19 : FVec Ideal S1024x1024 .f32} {v21 : FVec Ideal S1x1024 .f32}
    {v23 : FVec Ideal S1024 .f32} (hh : k0_pay11 v19 v21 v23 = hn x0 x1) {ia} (r : Fin 1024) (n : Fin 512) :
    k0_pay12 v19 v21 v23 (View.readAt (Elt Ideal) arg4.view (Rect.unit (s := S1024x2048) ![0, 1536] S1024x512.size ia).toLoadRect (harg4.unread x2)) (ix2 r n)
    = tokB W x0 r n :=
  (tok_at _ _ _ _ r n).trans (lin_eq hg hw hh (by omega) r n)

end

section
variable {Z : ℕ → ℕ → EReal} {z : FVec Ideal S1024x512 .f32} {a j : ℕ}

/-- The lane tiles of a block of channels starting at channel `a`. -/
theorem lane0 (hz : ∀ (r : Fin 1024) (n : Fin 512), z (ix2 r n) = Z r.val (a + n.val)) (ha : 128 * j = a) (r : Fin 1024) (l : Fin 128) :
    k0_pay30 z (ix3 0 r l) = Z r.val (128 * j + l.val) := by
  refine (tile0 z r l).trans ((hz r _).trans (congrArg _ ?_))
  show a + l.val = _
  omega
/-- The second. -/
theorem lane1 (hz : ∀ (r : Fin 1024) (n : Fin 512), z (ix2 r n) = Z r.val (a + n.val)) (ha : 128 * j = a + 128) (r : Fin 1024) (l : Fin 128) :
    k0_pay63 z (ix3 0 r l) = Z r.val (128 * j + l.val) := by
  refine (tile1 z r l).trans ((hz r _).trans (congrArg _ ?_))
  show a + (128 + l.val) = _
  omega
/-- The third. -/
theorem lane2 (hz : ∀ (r : Fin 1024) (n : Fin 512), z (ix2 r n) = Z r.val (a + n.val)) (ha : 128 * j = a + 256) (r : Fin 1024) (l : Fin 128) :
    k0_pay94 z (ix3 0 r l) = Z r.val (128 * j + l.val) := by
  refine (tile2 z r l).trans ((hz r _).trans (congrArg _ ?_))
  show a + (256 + l.val) = _
  omega
/-- The last. -/
theorem lane3 (hz : ∀ (r : Fin 1024) (n : Fin 512), z (ix2 r n) = Z r.val (a + n.val)) (ha : 128 * j = a + 384) (r : Fin 1024) (l : Fin 128) :
    k0_pay125 z (ix3 0 r l) = Z r.val (128 * j + l.val) := by
  refine (tile3 z r l).trans ((hz r _).trans (congrArg _ ?_))
  show a + (384 + l.val) = _
  omega

end

section
variable {W : Params} {car : Fin 16 → Fin 512 → EReal} {U : Fin 1024 → Fin 512 → EReal} {q : ℕ}
  {v19 : FVec Ideal S1024x1024 .f32} {v21 : FVec Ideal S1x1024 .f32} {v23 : FVec Ideal S1024 .f32} {w : Vec Ideal S1024x512 .bf16} {v38 : Vec Ideal S16x512 .f32}

/-- The first group's means less tokens. -/
theorem delta0 (hU : ∀ r n, k0_pay12 v19 v21 v23 w (ix2 r n) = U r n) (hc : ∀ i n, v38 (ix2 i n) = car i n) (hq : q < 4) (r : Fin 1024) (k : Fin 128) :
    k0_pay23 (k0_pay12 v19 v21 v23 w) (k0_pay17 v19 v21 v23 w v38) (k0_pay21 (BitVec.ofNat 32 q)) (ix2 r k) = deltaB car U q 0 r k := by
  refine (mean0_at _ _ _ r k (index_at hq r)).trans ?_
  rw [win0_at hU hc, hU]
  unfold deltaB
  congr 2 <;> simp [width]
/-- The second group's. -/
theorem delta1 (hU : ∀ r n, k0_pay12 v19 v21 v23 w (ix2 r n) = U r n) (hc : ∀ i n, v38 (ix2 i n) = car i n) (hq : q < 4) (r : Fin 1024) (k : Fin 128) :
    k0_pay24 (k0_pay12 v19 v21 v23 w) (k0_pay18 v19 v21 v23 w v38) (k0_pay21 (BitVec.ofNat 32 q)) (ix2 r k) = deltaB car U q 1 r k := by
  refine (mean1_at _ _ _ r k (index_at hq r)).trans ?_
  rw [win1_at hU hc, hU]
  rfl
/-- The third group's. -/
theorem delta2 (hU : ∀ r n, k0_pay12 v19 v21 v23 w (ix2 r n) = U r n) (hc : ∀ i n, v38 (ix2 i n) = car i n) (hq : q < 4) (r : Fin 1024) (k : Fin 128) :
    k0_pay25 (k0_pay12 v19 v21 v23 w) (k0_pay19 v19 v21 v23 w v38) (k0_pay21 (BitVec.ofNat 32 q)) (ix2 r k) = deltaB car U q 2 r k := by
  refine (mean2_at _ _ _ r k (index_at hq r)).trans ?_
  rw [win2_at hU hc, hU]
  unfold deltaB
  congr 2
  refine Finset.sum_congr rfl fun j _ => congrArg (fun n => ext car U n _) (Fin.ext ?_)
  show 128 + (128 + k.val) = 256 + k.val
  omega
/-- The last group's. -/
theorem delta3 (hU : ∀ r n, k0_pay12 v19 v21 v23 w (ix2 r n) = U r n) (hc : ∀ i n, v38 (ix2 i n) = car i n) (hq : q < 4) (r : Fin 1024) (k : Fin 128) :
    k0_pay26 (k0_pay12 v19 v21 v23 w) (k0_pay20 v19 v21 v23 w v38) (k0_pay21 (BitVec.ofNat 32 q)) (ix2 r k) = deltaB car U q 3 r k := by
  refine (mean3_at _ _ _ r k (index_at hq r)).trans ?_
  rw [win3_at hU hc, hU]
  unfold deltaB
  congr 2
  refine Finset.sum_congr rfl fun j _ => congrArg (fun n => ext car U n _) (Fin.ext ?_)
  show 128 + (128 + (128 + k.val)) = 384 + k.val
  omega

/-- A group's channels as stored. -/
theorem pool_rows {x3 : Vec Ideal S4x128x128 .bf16} {x4 : Vec Ideal S1x512 .f32} {arg5 : Memref sig .tc .vmem S4x128x128 .bf16} {harg5 : arg5.IsWhole}
    {arg6 : Memref sig .tc .vmem S1x512 .f32} {harg6 : arg6.IsWhole} (hpw : ∀ g k n, x3 (ix3 g k n) = W.pw g k n) (hps : ∀ n, x4 (ix2 0 n) = W.ps n)
    (g : Fin 4) {o : ℕ} (ho : o = 128 * g.val) {i5 i6} {d : FVec Ideal S1024x128 .bf16} (hd : ∀ r k, d (ix2 r k) = deltaB car U q g r k) (r : Fin 1024) (n : Fin 128) :
    k0_pay414 d (View.readAt (Elt Ideal) arg5.view (Rect.unit (s := S4x128x128) ![g.val, 0, 0] S1x128x128.size i5).toLoadRect (harg5.unread x3))
      (View.readAt (Elt Ideal) arg6.view (Rect.unit (s := S1x512) ![0, o] S1x128.size i6).toLoadRect (harg6.unread x4)) (ix3 0 r n)
    = table (poolB W car U q) r.val (o + n.val) := by
  have e := table_at (poolB W car U q) r ⟨o + n.val, by omega⟩
  refine (group_at _ _ _ r n).trans (Eq.trans ?_ e.symm)
  unfold poolB
  have hd' : (⟨(o + n.val) / 128, by omega⟩ : Fin 4) = g := Fin.ext (by show (o + n.val) / 128 = g.val; omega)
  have hm' : (⟨(o + n.val) % 128, by omega⟩ : Fin 128) = n := Fin.ext (by show (o + n.val) % 128 = n.val; omega)
  refine congrArg₂ (· * ·) (Finset.sum_congr rfl fun k _ => ?_) ((cols harg6 x4 o (by omega) 0 n).trans (hps _))
  rw [hd, slice harg5 x3 g k n, hpw]
  show _ = deltaB car U q ⟨(o + n.val) / 128, _⟩ r k * W.pw ⟨(o + n.val) / 128, _⟩ k ⟨(o + n.val) % 128, _⟩
  rw [hd', hm']

end

end Cert.ProjectionIdeal.Block

end
-- ==== Proof.MixWindows.lean ====
/-
  What a grid point of the first call is given: point `t` has rows `1024 (t mod 4)` onwards of batch row `t / 4`, every parameter whole, and a
  share of the rows of the matrices it copies.
-/
module

public import proofs.«01_k».proof.Proof.MixBlock
public import proofs.«01_k».proof.Proof.Gen.ProjectionIdeal.Value
public import Idealize.ShloMosaic.Lib.Pipeline.ValueKit
public import Idealize.ShloMosaic.Lib.Claim

@[expose] public section

noncomputable section

namespace Cert.ProjectionIdeal.Layer

open Idealize.ShloMosaic Idealize.ShloMosaic.TcCoe Idealize.SL.Sem
open Cert.ProjectionIdeal Cert.ProjectionIdeal.Gen Cert.Ffn Cert.Mix

variable (m : (ℓ : Loc nD τ sig) → Buf (Elt Ideal) ℓ) (c : Dev nD)

/-- The parameters, read from the arguments. -/
def W : Params where
  g n := m ((c : Thread nD τ).loc main_arg1) (ix1 n)
  win k n := m ((c : Thread nD τ).loc main_arg2) (ix2 k n)
  pw g k n := m ((c : Thread nD τ).loc main_arg3) (ix3 g k n)
  ps n := m ((c : Thread nD τ).loc main_arg4) (ix1 n)

/-- The row of position `s` of batch row `b`. -/
def xr (b : Fin 8) (s : Fin 4096) (k : Fin 1024) : EReal := m ((c : Thread nD τ).loc main_arg0) (ix3 b s k)

/-- The batch row a point works on, -/
def bat (t : Fin cfg0.N) : Fin 8 := ⟨t.val / 4, by have := lt_of_lt_of_eq t.isLt (show cfg0.N = 32 from N_0); omega⟩
/-- and the position in the sequence of its row `R`. -/
def pos (t : Fin cfg0.N) (R : Fin 1024) : Fin 4096 := ⟨1024 * (t.val % 4) + R.val, by omega⟩

/-- The blocks of the arrays that are cut along batch and sequence. -/
theorem idx : ∀ t : Fin cfg0.N,
    (win0_0.index t (0 : Fin 3) = t.val / 4 ∧ win0_0.index t (1 : Fin 3) = t.val % 4 ∧ win0_0.index t (2 : Fin 3) = 0)
    ∧ (win0_10.index t (0 : Fin 3) = t.val / 4 ∧ win0_10.index t (1 : Fin 3) = t.val % 4 ∧ win0_10.index t (2 : Fin 3) = 0)
    ∧ (win0_11.index t (0 : Fin 4) = t.val / 4 ∧ win0_11.index t (1 : Fin 4) = 0 ∧ win0_11.index t (2 : Fin 4) = t.val % 4 ∧ win0_11.index t (3 : Fin 4) = 0)
    ∧ (win0_12.index t (0 : Fin 4) = t.val / 4 ∧ win0_12.index t (1 : Fin 4) = 0 ∧ win0_12.index t (2 : Fin 4) = t.val % 4 ∧ win0_12.index t (3 : Fin 4) = 0)
    ∧ (win0_13.index t (0 : Fin 3) = t.val / 4 ∧ win0_13.index t (1 : Fin 3) = t.val % 4 ∧ win0_13.index t (2 : Fin 3) = 0) :=
  (by decide +kernel : ∀ t : Fin grid0.N, _)

/-- Every parameter is one block. -/
theorem idxW : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) :=
  (by decide +kernel : ∀ t : Fin grid0.N, _)

/-- A matrix that is copied is read and written at the same block of rows. -/
theorem idxC : ∀ t : Fin cfg0.N,
    (win0_5.index t (0 : Fin 2) = t.val ∧ win0_5.index t (1 : Fin 2) = 0 ∧ win0_14.index t (0 : Fin 2) = t.val ∧ win0_14.index t (1 : Fin 2) = 0)
    ∧ (win0_6.index t (0 : Fin 2) = t.val ∧ win0_6.index t (1 : Fin 2) = 0 ∧ win0_15.index t (0 : Fin 2) = t.val ∧ win0_15.index t (1 : Fin 2) = 0)
    ∧ (win0_7.index t (0 : Fin 2) = min t.val 21 ∧ win0_7.index t (1 : Fin 2) = 0 ∧ win0_16.index t (0 : Fin 2) = min t.val 21 ∧ win0_16.index t (1 : Fin 2) = 0)
    ∧ (win0_8.index t (0 : Fin 2) = t.val ∧ win0_8.index t (1 : Fin 2) = 0 ∧ win0_17.index t (0 : Fin 2) = t.val ∧ win0_17.index t (1 : Fin 2) = 0)
    ∧ (win0_9.index t (0 : Fin 2) = min t.val 15 ∧ win0_9.index t (1 : Fin 2) = 0 ∧ win0_18.index t (0 : Fin 2) = min t.val 15 ∧ win0_18.index t (1 : Fin 2) = 0) :=
  (by decide +kernel : ∀ t : Fin grid0.N, _)

/-- A point's place in its sequence is the grid's second coordinate. -/
theorem coord1 : ∀ t : Fin cfg0.N, (grid0.coords t 1).val = t.val % 4 := (by decide +kernel : ∀ t : Fin grid0.N, _)

variable (t : Fin cfg0.N)

/-- The input rows of a point. -/
theorem x_at (R : Fin 1024) (k : Fin 1024) : (iblk m c 0 t : Vec Ideal S1x1024x1024 .f32) (ix3 0 R k) = xr m c (bat t) (pos t R) k := by
  show _ = m ((c : Thread nD τ).loc main_arg0) (ix3 (bat t) (pos t R) k)
  blk_ext [iblk, V_main_arg0, idx t, bat, pos]

/-- The gains of the norm that a point sees. -/
theorem g_at (n : Fin 1024) : (iblk m c 1 t : Vec Ideal S1x1024 .f32) (ix2 0 n) = (W m c).g n := by
  show _ = m ((c : Thread nD τ).loc main_arg1) (ix1 n)
  blk_simp [iblk, idxW t]
  entry_read
  pointwise
  blk_ext [idxW t]

/-- The input projection that a point sees. -/
theorem win_at (k : Fin 1024) (n : Fin 2048) : (iblk m c 2 t : Vec Ideal S1024x2048 .bf16) (ix2 k n) = (W m c).win k n := by
  show _ = m ((c : Thread nD τ).loc main_arg2) (ix2 k n)
  blk_simp [iblk, idxW t]
  entry_read
  pointwise
  blk_ext [idxW t]

/-- The pooling matrices that a point sees. -/
theorem pw_at (g : Fin 4) (k n : Fin 128) : (iblk m c 3 t : Vec Ideal S4x128x128 .bf16) (ix3 g k n) = (W m c).pw g k n := by
  show _ = m ((c : Thread nD τ).loc main_arg3) (ix3 g k n)
  blk_simp [iblk, idxW t]
  entry_read
  pointwise
  blk_ext [idxW t]

/-- The pooling scales that a point sees. -/
theorem ps_at (n : Fin 512) : (iblk m c 4 t : Vec Ideal S1x512 .f32) (ix2 0 n) = (W m c).ps n := by
  show _ = m ((c : Thread nD τ).loc main_arg4) (ix1 n)
  blk_simp [iblk, idxW t]
  entry_read
  pointwise
  blk_ext [idxW t]

end Cert.ProjectionIdeal.Layer

end
-- ==== Proof.MixA.lean ====
/-
  A grid point of case A of the first call (the first of a sequence: the history starts at zero): what it stores and what it leaves.
-/
module

public import proofs.«01_k».proof.Proof.MixBlock
public import proofs.«01_k».proof.Proof.Gen.ProjectionIdeal.Frame

@[expose] public section

set_option maxRecDepth 16384

noncomputable section

namespace Cert.ProjectionIdeal.CaseA

open Idealize.ShloMosaic Idealize.ShloMosaic.TcCoe Idealize.SL.Sem
open Cert.ProjectionIdeal Cert.ProjectionIdeal.Gen Cert.Ffn Cert.Mix Cert.ProjectionIdeal.Pay Cert.ProjectionIdeal.Regroup Cert.ProjectionIdeal.Block

variable (c : Dev nD) (i : grid0.Coords)
  (arg2 : Memref sig .tc .vmem S1x1024x1024 .f32) (harg2 : arg2.IsWhole) (arg3 : Memref sig .tc .vmem S1x1024 .f32) (harg3 : arg3.IsWhole) (arg4 : Memref sig .tc .vmem S1024x2048 .bf16) (harg4 : arg4.IsWhole)
  (arg5 : Memref sig .tc .vmem S4x128x128 .bf16) (harg5 : arg5.IsWhole) (arg6 : Memref sig .tc .vmem S1x512 .f32) (harg6 : arg6.IsWhole) (arg7 : Memref sig .tc .vmem S32x1024 .f32) (harg7 : arg7.IsWhole)
  (arg8 : Memref sig .tc .vmem S32x5632 .f32) (harg8 : arg8.IsWhole) (arg9 : Memref sig .tc .vmem S128x1024 .f32) (harg9 : arg9.IsWhole) (arg10 : Memref sig .tc .vmem S32x1024 .f32) (harg10 : arg10.IsWhole)
  (arg11 : Memref sig .tc .vmem S16x1024 .f32) (harg11 : arg11.IsWhole) (arg12 : Memref sig .tc .vmem S1x1024x1536 .bf16) (harg12 : arg12.IsWhole) (arg13 : Memref sig .tc .vmem S1x4x256x1536 .bf16) (harg13 : arg13.IsWhole)
  (arg14 : Memref sig .tc .vmem S1x16x64x1536 .bf16) (harg14 : arg14.IsWhole) (arg15 : Memref sig .tc .vmem S1x1024x512 .bf16) (harg15 : arg15.IsWhole) (arg16 : Memref sig .tc .vmem S32x1024 .bf16) (harg16 : arg16.IsWhole)
  (arg17 : Memref sig .tc .vmem S32x5632 .bf16) (harg17 : arg17.IsWhole) (arg18 : Memref sig .tc .vmem S128x1024 .bf16) (harg18 : arg18.IsWhole) (arg19 : Memref sig .tc .vmem S32x1024 .bf16) (harg19 : arg19.IsWhole)
  (arg20 : Memref sig .tc .vmem S16x1024 .bf16) (harg20 : arg20.IsWhole) (arg21 : Memref sig .tc .vmem S12x1024x128 .f32) (harg21 : arg21.IsWhole) (arg22 : Memref sig .tc .vmem S12x1024x128 .f32) (harg22 : arg22.IsWhole)
  (arg23 : Memref sig .tc .vmem S16x512 .f32) (harg23 : arg23.IsWhole)
  (hc0 : cond0_0 i)
  (x0 : Vec Ideal S1x1024x1024 .f32) (x1 : Vec Ideal S1x1024 .f32) (x2 : Vec Ideal S1024x2048 .bf16) (x3 : Vec Ideal S4x128x128 .bf16) (x4 : Vec Ideal S1x512 .f32) (x5 : Vec Ideal S32x1024 .f32) (x6 : Vec Ideal S32x5632 .f32) (x7 : Vec Ideal S128x1024 .f32) (x8 : Vec Ideal S32x1024 .f32) (x9 : Vec Ideal S16x1024 .f32)

/-- The normalised rows are those of the block loaded. -/
theorem normed : kernelRun0_A.sl.r_3 (F := Ideal) c arg2 harg2 arg3 harg3 x0 x1 = hn x0 x1 := by
  unfold kernelRun0_A.sl.r_3 kernelRun0_A.sl.r kernelRun0_A.sl.r_1 kernelRun0_A.sl.r_2
  rw [whole harg2 x0 (by decide), whole harg3 x1 (by decide)]

/-- The query rows before they are stored, -/
theorem q_eq (W : Params) (hg : ∀ n, x1 (ix2 0 n) = W.g n) (hw : ∀ k n, x2 (ix2 k n) = W.win k n) (r : Fin 1024) (n : Fin 512) :
    kernelRun0_A.sl.r_14 (F := Ideal) c arg2 harg2 arg3 harg3 arg4 harg4 x0 x1 x2 (ix2 r n) = rowsB W x0 r.val (0 + n.val) :=
  q_rows hg hw (normed c arg2 harg2 arg3 harg3 x0 x1) r n

/-- the key rows, -/
theorem k_eq (W : Params) (hg : ∀ n, x1 (ix2 0 n) = W.g n) (hw : ∀ k n, x2 (ix2 k n) = W.win k n) (r : Fin 1024) (n : Fin 512) :
    kernelRun0_A.sl.r_32 (F := Ideal) c arg2 harg2 arg3 harg3 arg4 harg4 x0 x1 x2 (ix2 r n) = rowsB W x0 r.val (512 + n.val) :=
  kv_rows hg hw (normed c arg2 harg2 arg3 harg3 x0 x1) (by omega) (by omega) r n

/-- and the value rows. -/
theorem v_eq (W : Params) (hg : ∀ n, x1 (ix2 0 n) = W.g n) (hw : ∀ k n, x2 (ix2 k n) = W.win k n) (r : Fin 1024) (n : Fin 512) :
    kernelRun0_A.sl.r_48 (F := Ideal) c arg2 harg2 arg3 harg3 arg4 harg4 x0 x1 x2 (ix2 r n) = rowsB W x0 r.val (1024 + n.val) :=
  kv_rows hg hw (normed c arg2 harg2 arg3 harg3 x0 x1) (by omega) (by omega) r n

/-- The twelve lane tiles staged. -/
theorem tiles (W : Params) (hg : ∀ n, x1 (ix2 0 n) = W.g n) (hw : ∀ k n, x2 (ix2 k n) = W.win k n) : View.PiecesOf (staged (rowsB W x0)) (kernelRun0_A.sl.HS0_12 (F := Ideal) c arg2 harg2 arg3 harg3 arg4 harg4 x0 x1 x2) := by
  have hq := q_eq c arg2 harg2 arg3 harg3 arg4 harg4 x0 x1 x2 W hg hw
  have hk := k_eq c arg2 harg2 arg3 harg3 arg4 harg4 x0 x1 x2 W hg hw
  have hv := v_eq c arg2 harg2 arg3 harg3 arg4 harg4 x0 x1 x2 W hg hw
  exact ⟨tile_piece (by decide) (lane3 hv (by omega)), tile_piece (by decide) (lane2 hv (by omega)), tile_piece (by decide) (lane1 hv (by omega)), tile_piece (by decide) (lane0 hv (by omega)),
    tile_piece (by decide) (lane3 hk (by omega)), tile_piece (by decide) (lane2 hk (by omega)), tile_piece (by decide) (lane1 hk (by omega)), tile_piece (by decide) (lane0 hk (by omega)),
    tile_piece (by decide) (lane3 hq (by omega)), tile_piece (by decide) (lane2 hq (by omega)), tile_piece (by decide) (lane1 hq (by omega)), tile_piece (by decide) (lane0 hq (by omega)), trivial⟩

/-- The classes of four staged, a lane tile after another. -/
theorem classes (W : Params) (hg : ∀ n, x1 (ix2 0 n) = W.g n) (hw : ∀ k n, x2 (ix2 k n) = W.win k n) : View.PiecesOf (staged4 (rowsB W x0)) (kernelRun0_A.sl.HS1_48 (F := Ideal) c arg2 harg2 arg3 harg3 arg4 harg4 arg21 x0 x1 x2) := by
  have h := tiles c arg2 harg2 arg3 harg3 arg4 harg4 x0 x1 x2 W hg hw
  iterate 12
    refine more (piece4' (c := 3) (by decide) ⟨_, _, _, rfl⟩ h) (more (piece4' (c := 2) (by decide) ⟨_, _, _, rfl⟩ h)
      (more (piece4' (c := 1) (by decide) ⟨_, _, _, rfl⟩ h) (more (piece4' (c := 0) (by decide) ⟨_, _, _, rfl⟩ h) ?_)))
    replace h := rest h
  exact trivial

/-- The rows stored in their natural order. -/
theorem out_rows (W : Params) (hg : ∀ n, x1 (ix2 0 n) = W.g n) (hw : ∀ k n, x2 (ix2 k n) = W.win k n) (r : Fin 1024) (n : Fin 1536) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 (ix3 0 r n)
    = qkv W (fun k => x0 (ix3 0 r k)) n := by
  unfold out0_A_10
  rw [View.read_writes_junk_apply_eq_canon]
  have hq := q_eq c arg2 harg2 arg3 harg3 arg4 harg4 x0 x1 x2 W hg hw
  have hk := k_eq c arg2 harg2 arg3 harg3 arg4 harg4 x0 x1 x2 W hg hw
  have hv := v_eq c arg2 harg2 arg3 harg3 arg4 harg4 x0 x1 x2 W hg hw
  have hP : View.PiecesOf (rows 1536 (rowsB W x0)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).1 :=
    ⟨row_piece (by decide) fun r n => (nat_at' _ _ r n).trans (hv r n), row_piece (by decide) fun r n => (nat_at' _ _ r n).trans (hk r n),
      row_piece (by decide) fun r n => (nat_at _ r n).trans (hq r n), trivial⟩
  exact (View.canon_apply_of_pieces _ _ hP.mem _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 _)).trans (table_at (fun (r : Fin 1024) (n : Fin 1536) => qkv W (fun k => x0 (ix3 0 r k)) n) r n)

/-- The rows stored in classes of four. -/
theorem out_four (W : Params) (hg : ∀ n, x1 (ix2 0 n) = W.g n) (hw : ∀ k n, x2 (ix2 k n) = W.win k n) (k : Fin 4) (r : Fin 256) (n : Fin 1536) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 (ix4 0 k r n)
    = qkv W (fun j => x0 (ix3 0 ⟨4 * r.val + k.val, by omega⟩ j)) n := by
  unfold out0_A_11
  rw [View.read_writes_junk_apply_eq_canon]
  have hP : View.PiecesOf (rows4 (rowsB W x0)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.1 := by
    have h := tiles c arg2 harg2 arg3 harg3 arg4 harg4 x0 x1 x2 W hg hw
    iterate 12
      refine more (piece4 (by decide) ⟨_, _, _, rfl⟩ h) (more (piece4 (by decide) ⟨_, _, _, rfl⟩ h) (more (piece4 (by decide) ⟨_, _, _, rfl⟩ h)
        (more (piece4 (by decide) ⟨_, _, _, rfl⟩ h) ?_)))
      replace h := rest h
    exact trivial
  exact (View.canon_apply_of_pieces _ _ hP.mem _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 _)).trans (table_at (fun (r : Fin 1024) (n : Fin 1536) => qkv W (fun k => x0 (ix3 0 r k)) n) ⟨4 * r.val + k.val, by omega⟩ n)

/-- The rows stored in classes of sixteen. -/
theorem out_sixteen (W : Params) (hg : ∀ n, x1 (ix2 0 n) = W.g n) (hw : ∀ k n, x2 (ix2 k n) = W.win k n) (k : Fin 16) (r : Fin 64) (n : Fin 1536) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 (ix4 0 k r n)
    = qkv W (fun j => x0 (ix3 0 ⟨16 * r.val + k.val, by omega⟩ j)) n := by
  unfold out0_A_12
  rw [View.read_writes_junk_apply_eq_canon]
  have hP : View.PiecesOf (rows16 (rowsB W x0)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.1 := by
    have h := classes c arg2 harg2 arg3 harg3 arg4 harg4 arg21 x0 x1 x2 W hg hw
    iterate 12
      refine more (piece16 3 3 (by decide) ⟨_, _, _, _, _, _, _, _, _, rfl⟩ h) (more (piece16 3 2 (by decide) ⟨_, _, _, _, _, _, _, _, _, rfl⟩ h)
        (more (piece16 3 1 (by decide) ⟨_, _, _, _, _, _, _, _, _, rfl⟩ h) (more (piece16 3 0 (by decide) ⟨_, _, _, _, _, _, _, _, _, rfl⟩ h) ?_)))
      refine more (piece16 2 3 (by decide) ⟨_, _, _, _, _, _, _, _, _, rfl⟩ h) (more (piece16 2 2 (by decide) ⟨_, _, _, _, _, _, _, _, _, rfl⟩ h)
        (more (piece16 2 1 (by decide) ⟨_, _, _, _, _, _, _, _, _, rfl⟩ h) (more (piece16 2 0 (by decide) ⟨_, _, _, _, _, _, _, _, _, rfl⟩ h) ?_)))
      refine more (piece16 1 3 (by decide) ⟨_, _, _, _, _, _, _, _, _, rfl⟩ h) (more (piece16 1 2 (by decide) ⟨_, _, _, _, _, _, _, _, _, rfl⟩ h)
        (more (piece16 1 1 (by decide) ⟨_, _, _, _, _, _, _, _, _, rfl⟩ h) (more (piece16 1 0 (by decide) ⟨_, _, _, _, _, _, _, _, _, rfl⟩ h) ?_)))
      refine more (piece16 0 3 (by decide) ⟨_, _, _, _, _, _, _, _, _, rfl⟩ h) (more (piece16 0 2 (by decide) ⟨_, _, _, _, _, _, _, _, _, rfl⟩ h)
        (more (piece16 0 1 (by decide) ⟨_, _, _, _, _, _, _, _, _, rfl⟩ h) (more (piece16 0 0 (by decide) ⟨_, _, _, _, _, _, _, _, _, rfl⟩ h) ?_)))
      replace h := rest (rest (rest (rest h)))
    exact trivial
  exact (View.canon_apply_of_pieces _ _ hP.mem _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 _)).trans (table_at (fun (r : Fin 1024) (n : Fin 1536) => qkv W (fun k => x0 (ix3 0 r k)) n) ⟨16 * r.val + k.val, by omega⟩ n)

/-- The tokens. -/
theorem tok_eq (W : Params) (hg : ∀ n, x1 (ix2 0 n) = W.g n) (hw : ∀ k n, x2 (ix2 k n) = W.win k n) (r : Fin 1024) (n : Fin 512) : kernelRun0_A.sl.r_4 (F := Ideal) c arg2 harg2 arg3 harg3 arg4 harg4 x0 x1 x2 (ix2 r n) = tokB W x0 r n :=
  tok_rows hg hw (normed c arg2 harg2 arg3 harg3 x0 x1) r n

/-- The history found is zero. -/
theorem found (j : Fin 16) (n : Fin 512) : kernelRun0_A.sl.v38 (F := Ideal) c arg23 (ix2 j n) = 0 := by
  refine (read_of arg23.view (G := fun _ => (0 : EReal)) (L := kernelRun0_A.sl.HS2_1) ⟨fun x => ?_, trivial⟩
    (Rect.unit (s := S16x512) ![0, 0] S16x512.size inb_S16x512_S16x512_0_0).toLoadRect (ix2 j n) (ix2 j n) ?_ ⟨_, List.mem_cons_self, ?_⟩)
  · exact (congrArg _ (funext fun a => match a with | ⟨0, _⟩ => rfl | ⟨1, _⟩ => rfl)).trans (zero_at (x 0) (x 1))
  · intro a
    match a with
    | ⟨0, _⟩ => show 0 + 1 * j.val = j.val; omega
    | ⟨1, _⟩ => show 0 + 1 * n.val = n.val; omega
  · refine mem_unit (h := inb_S16x512_S16x512_0_0) _ fun a => ?_
    match a with
    | ⟨0, _⟩ => show 0 ≤ j.val ∧ j.val < 0 + 16; omega
    | ⟨1, _⟩ => show 0 ≤ n.val ∧ n.val < 0 + 512; omega

/-- The pooled channels stored. -/
theorem out_pool (W : Params) (hg : ∀ n, x1 (ix2 0 n) = W.g n) (hw : ∀ k n, x2 (ix2 k n) = W.win k n) (hpw : ∀ g k n, x3 (ix3 g k n) = W.pw g k n) (hps : ∀ n, x4 (ix2 0 n) = W.ps n)
    (r : Fin 1024) (n : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 (ix3 0 r n)
    = poolB W (fun _ _ => 0) (tokB W x0) (i 1).val r n := by
  unfold out0_A_13
  rw [View.read_writes_junk_apply_eq_canon]
  have hU := tok_eq c arg2 harg2 arg3 harg3 arg4 harg4 x0 x1 x2 W hg hw
  have hi : (i 1).val < 4 := (i 1).isLt
  have hP : View.PiecesOf (rows 512 (table (poolB W (fun _ _ => 0) (tokB W x0) (i 1).val)))
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.2.1 :=
    ⟨row_piece (by decide) (pool_rows hpw hps 3 rfl fun r k => delta3 hU (found c arg23) hi r k),
      row_piece (by decide) (pool_rows hpw hps 2 rfl fun r k => delta2 hU (found c arg23) hi r k),
      row_piece (by decide) (pool_rows hpw hps 1 rfl fun r k => delta1 hU (found c arg23) hi r k),
      row_piece (by decide) (pool_rows hpw hps 0 rfl fun r k => delta0 hU (found c arg23) hi r k), trivial⟩
  exact (View.canon_apply_of_pieces _ _ hP.mem _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 _)).trans (table_at _ r n)

/-- The output projection stored is the block loaded. -/
theorem out_copy14 : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = x5 := by
  unfold out0_A_14
  funext y
  rw [View.read_writes_junk_apply_eq_canon]
  exact View.canon_apply_of_pieces x5 _ (View.PiecesOf.mem (L := (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.2.2.1)
    ⟨fun z => (congrFun (whole harg7 x5 (by decide)) z).trans (copied x5 (h := inb_S32x1024_S32x1024_0_0) (by decide) z), trivial⟩) y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)

/-- The up projection stored is the block loaded. -/
theorem out_copy15 : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = x6 := by
  unfold out0_A_15
  funext y
  rw [View.read_writes_junk_apply_eq_canon]
  exact View.canon_apply_of_pieces x6 _ (View.PiecesOf.mem (L := (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.2.2.2.1)
    ⟨fun z => (congrFun (whole harg8 x6 (by decide)) z).trans (copied x6 (h := inb_S32x5632_S32x5632_0_0) (by decide) z), trivial⟩) y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)

/-- The down projection stored is the block loaded. -/
theorem out_copy16 : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = x7 := by
  unfold out0_A_16
  funext y
  rw [View.read_writes_junk_apply_eq_canon]
  exact View.canon_apply_of_pieces x7 _ (View.PiecesOf.mem (L := (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.2.2.2.2.1)
    ⟨fun z => (congrFun (whole harg9 x7 (by decide)) z).trans (copied x7 (h := inb_S128x1024_S128x1024_0_0) (by decide) z), trivial⟩) y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)

/-- The gate matrix stored is the block loaded. -/
theorem out_copy17 : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = x8 := by
  unfold out0_A_17
  funext y
  rw [View.read_writes_junk_apply_eq_canon]
  exact View.canon_apply_of_pieces x8 _ (View.PiecesOf.mem (L := (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.2.2.2.2.2.1)
    ⟨fun z => (congrFun (whole harg10 x8 (by decide)) z).trans (copied x8 (h := inb_S32x1024_S32x1024_0_0) (by decide) z), trivial⟩) y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)

/-- The embedding matrix stored is the block loaded. -/
theorem out_copy18 : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = x9 := by
  unfold out0_A_18
  funext y
  rw [View.read_writes_junk_apply_eq_canon]
  exact View.canon_apply_of_pieces x9 _ (View.PiecesOf.mem (L := (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9).2.2.2.2.2.2.2.2.1)
    ⟨fun z => (congrFun (whole harg11 x9 (by decide)) z).trans (copied x9 (h := inb_S16x1024_S16x1024_0_0) (by decide) z), trivial⟩) y (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)

/-- The history left: the tokens of the last sixteen rows. -/
theorem left (W : Params) (hg : ∀ n, x1 (ix2 0 n) = W.g n) (hw : ∀ k n, x2 (ix2 k n) = W.win k n) (j : Fin 16) (n : Fin 512) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 (ix2 j n)
    = tokB W x0 ⟨1008 + j.val, by omega⟩ n := by
  unfold sout0_A_2
  rw [View.read_writes_junk_apply_eq_canon]
  refine (last_at (L := kernelRun0_A.sl.HS2_1) j n).trans ?_
  refine (kept_at _ _ _ _ j n).trans ?_
  exact tok_eq c arg2 harg2 arg3 harg3 arg4 harg4 x0 x1 x2 W hg hw _ n

end Cert.ProjectionIdeal.CaseA

end
-- ==== Proof.MixB.lean ====
/-
  A grid point of case B of the first call (a later one of a sequence: the history is what the point before left): what it stores and what it leaves.
-/
module

public import proofs.«01_k».proof.Proof.MixBlock
public import proofs.«01_k».proof.Proof.Gen.ProjectionIdeal.Frame

@[expose] public section

set_option maxRecDepth 16384

noncomputable section

namespace Cert.ProjectionIdeal.CaseB

open Idealize.ShloMosaic Idealize.ShloMosaic.TcCoe Idealize.SL.Sem
open Cert.ProjectionIdeal Cert.ProjectionIdeal.Gen Cert.Ffn Cert.Mix Cert.ProjectionIdeal.Pay Cert.ProjectionIdeal.Regroup Cert.ProjectionIdeal.Block

variable (c : Dev nD) (i : grid0.Coords)
  (arg2 : Memref sig .tc .vmem S1x1024x1024 .f32) (harg2 : arg2.IsWhole) (arg3 : Memref sig .tc .vmem S1x1024 .f32) (harg3 : arg3.IsWhole) (arg4 : Memref sig .tc .vmem S1024x2048 .bf16) (harg4 : arg4.IsWhole)
  (arg5 : Memref sig .tc .vmem S4x128x128 .bf16) (harg5 : arg5.IsWhole) (arg6 : Memref sig .tc .vmem S1x512 .f32) (harg6 : arg6.IsWhole) (arg7 : Memref sig .tc .vmem S32x1024 .f32) (harg7 : arg7.IsWhole)
  (arg8 : Memref sig .tc .vmem S32x5632 .f32) (harg8 : arg8.IsWhole) (arg9 : Memref sig .tc .vmem S128x1024 .f32) (harg9 : arg9.IsWhole) (arg10 : Memref sig .tc .vmem S32x1024 .f32) (harg10 : arg10.IsWhole)
  (arg11 : Memref sig .tc .vmem S16x1024 .f32) (harg11 : arg11.IsWhole) (arg12 : Memref sig .tc .vmem S1x1024x1536 .bf16) (harg12 : arg12.IsWhole) (arg13 : Memref sig .tc .vmem S1x4x256x1536 .bf16) (harg13 : arg13.IsWhole)
  (arg14 : Memref sig .tc .vmem S1x16x64x1536 .bf16) (harg14 : arg14.IsWhole) (arg15 : Memref sig .tc .vmem S1x1024x512 .bf16) (harg15 : arg15.IsWhole) (arg16 : Memref sig .tc .vmem S32x1024 .bf16) (harg16 : arg16.IsWhole)
  (arg17 : Memref sig .tc .vmem S32x5632 .bf16) (harg17 : arg17.IsWhole) (arg18 : Memref sig .tc .vmem S128x1024 .bf16) (harg18 : arg18.IsWhole) (arg19 : Memref sig .tc .vmem S32x1024 .bf16) (harg19 : arg19.IsWhole)
  (arg20 : Memref sig .tc .vmem S16x1024 .bf16) (harg20 : arg20.IsWhole) (arg21 : Memref sig .tc .vmem S12x1024x128 .f32) (harg21 : arg21.IsWhole) (arg22 : Memref sig .tc .vmem S12x1024x128 .f32) (harg22 : arg22.IsWhole)
  (arg23 : Memref sig .tc .vmem S16x512 .f32) (harg23 : arg23.IsWhole)
  (hc0 : ¬cond0_0 i)
  (x0 : Vec Ideal S1x1024x1024 .f32) (x1 : Vec Ideal S1x1024 .f32) (x2 : Vec Ideal S1024x2048 .bf16) (x3 : Vec Ideal S4x128x128 .bf16) (x4 : Vec Ideal S1x512 .f32) (x5 : Vec Ideal S32x1024 .f32) (x6 : Vec Ideal S32x5632 .f32) (x7 : Vec Ideal S128x1024 .f32) (x8 : Vec Ideal S32x1024 .f32) (x9 : Vec Ideal S16x1024 .f32) (xs2 : Vec Ideal S16x512 .f32)

/-- The normalised rows are those of the block loaded. -/
theorem normed : kernelRun0_B.sl.r_3 (F := Ideal) c arg2 harg2 arg3 harg3 x0 x1 = hn x0 x1 := by
  unfold kernelRun0_B.sl.r_3 kernelRun0_B.sl.r kernelRun0_B.sl.r_1 kernelRun0_B.sl.r_2
  rw [whole harg2 x0 (by decide), whole harg3 x1 (by decide)]

/-- The query rows before they are stored, -/
theorem q_eq (W : Params) (hg : ∀ n, x1 (ix2 0 n) = W.g n) (hw : ∀ k n, x2 (ix2 k n) = W.win k n) (r : Fin 1024) (n : Fin 512) :
    kernelRun0_B.sl.r_14 (F := Ideal) c arg2 harg2 arg3 harg3 arg4 harg4 x0 x1 x2 (ix2 r n) = rowsB W x0 r.val (0 + n.val) :=
  q_rows hg hw (normed c arg2 harg2 arg3 harg3 x0 x1) r n

/-- the key rows, -/
theorem k_eq (W : Params) (hg : ∀ n, x1 (ix2 0 n) = W.g n) (hw : ∀ k n, x2 (ix2 k n) = W.win k n) (r : Fin 1024) (n : Fin 512) :
    kernelRun0_B.sl.r_32 (F := Ideal) c arg2 harg2 arg3 harg3 arg4 harg4 x0 x1 x2 (ix2 r n) = rowsB W x0 r.val (512 + n.val) :=
  kv_rows hg hw (normed c arg2 harg2 arg3 harg3 x0 x1) (by omega) (by omega) r n

/-- and the value rows. -/
theorem v_eq (W : Params) (hg : ∀ n, x1 (ix2 0 n) = W.g n) (hw : ∀ k n, x2 (ix2 k n) = W.win k n) (r : Fin 1024) (n : Fin 512) :
    kernelRun0_B.sl.r_48 (F := Ideal) c arg2 harg2 arg3 harg3 arg4 harg4 x0 x1 x2 (ix2 r n) = rowsB W x0 r.val (1024 + n.val) :=
  kv_rows hg hw (normed c arg2 harg2 arg3 harg3 x0 x1) (by omega) (by omega) r n

/-- The twelve lane tiles staged. -/
theorem tiles (W : Params) (hg : ∀ n, x1 (ix2 0 n) = W.g n) (hw : ∀ k n, x2 (ix2 k n) = W.win k n) : View.PiecesOf (staged (rowsB W x0)) (kernelRun0_B.sl.HS0_12 (F := Ideal) c arg2 harg2 arg3 harg3 arg4 harg4 x0 x1 x2) := by
  have hq := q_eq c arg2 harg2 arg3 harg3 arg4 harg4 x0 x1 x2 W hg hw
  have hk := k_eq c arg2 harg2 arg3 harg3 arg4 harg4 x0 x1 x2 W hg hw
  have hv := v_eq c arg2 harg2 arg3 harg3 arg4 harg4 x0 x1 x2 W hg hw
  exact ⟨tile_piece (by decide) (lane3 hv (by omega)), tile_piece (by decide) (lane2 hv (by omega)), tile_piece (by decide) (lane1 hv (by omega)), tile_piece (by decide) (lane0 hv (by omega)),
    tile_piece (by decide) (lane3 hk (by omega)), tile_piece (by decide) (lane2 hk (by omega)), tile_piece (by decide) (lane1 hk (by omega)), tile_piece (by decide) (lane0 hk (by omega)),
    tile_piece (by decide) (lane3 hq (by omega)), tile_piece (by decide) (lane2 hq (by omega)), tile_piece (by decide) (lane1 hq (by omega)), tile_piece (by decide) (lane0 hq (by omega)), trivial⟩

/-- The classes of four staged, a lane tile after another. -/
theorem classes (W : Params) (hg : ∀ n, x1 (ix2 0 n) = W.g n) (hw : ∀ k n, x2 (ix2 k n) = W.win k n) : View.PiecesOf (staged4 (rowsB W x0)) (kernelRun0_B.sl.HS1_48 (F := Ideal) c arg2 harg2 arg3 harg3 arg4 harg4 arg21 x0 x1 x2) := by
  have h := tiles c arg2 harg2 arg3 harg3 arg4 harg4 x0 x1 x2 W hg hw
  iterate 12
    refine more (piece4' (c := 3) (by decide) ⟨_, _, _, rfl⟩ h) (more (piece4' (c := 2) (by decide) ⟨_, _, _, rfl⟩ h)
      (more (piece4' (c := 1) (by decide) ⟨_, _, _, rfl⟩ h) (more (piece4' (c := 0) (by decide) ⟨_, _, _, rfl⟩ h) ?_)))
    replace h := rest h
  exact trivial

/-- The rows stored in their natural order. -/
theorem out_rows (W : Params) (hg : ∀ n, x1 (ix2 0 n) = W.g n) (hw : ∀ k n, x2 (ix2 k n) = W.win k n) (r : Fin 1024) (n : Fin 1536) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 (ix3 0 r n)
    = qkv W (fun k => x0 (ix3 0 r k)) n := by
  unfold out0_B_10
  rw [View.read_writes_junk_apply_eq_canon]
  have hq := q_eq c arg2 harg2 arg3 harg3 arg4 harg4 x0 x1 x2 W hg hw
  have hk := k_eq c arg2 harg2 arg3 harg3 arg4 harg4 x0 x1 x2 W hg hw
  have hv := v_eq c arg2 harg2 arg3 harg3 arg4 harg4 x0 x1 x2 W hg hw
  have hP : View.PiecesOf (rows 1536 (rowsB W x0)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).1 :=
    ⟨row_piece (by decide) fun r n => (nat_at' _ _ r n).trans (hv r n), row_piece (by decide) fun r n => (nat_at' _ _ r n).trans (hk r n),
      row_piece (by decide) fun r n => (nat_at _ r n).trans (hq r n), trivial⟩
  exact (View.canon_apply_of_pieces _ _ hP.mem _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 _)).trans (table_at (fun (r : Fin 1024) (n : Fin 1536) => qkv W (fun k => x0 (ix3 0 r k)) n) r n)

/-- The rows stored in classes of four. -/
theorem out_four (W : Params) (hg : ∀ n, x1 (ix2 0 n) = W.g n) (hw : ∀ k n, x2 (ix2 k n) = W.win k n) (k : Fin 4) (r : Fin 256) (n : Fin 1536) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 (ix4 0 k r n)
    = qkv W (fun j => x0 (ix3 0 ⟨4 * r.val + k.val, by omega⟩ j)) n := by
  unfold out0_B_11
  rw [View.read_writes_junk_apply_eq_canon]
  have hP : View.PiecesOf (rows4 (rowsB W x0)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.1 := by
    have h := tiles c arg2 harg2 arg3 harg3 arg4 harg4 x0 x1 x2 W hg hw
    iterate 12
      refine more (piece4 (by decide) ⟨_, _, _, rfl⟩ h) (more (piece4 (by decide) ⟨_, _, _, rfl⟩ h) (more (piece4 (by decide) ⟨_, _, _, rfl⟩ h)
        (more (piece4 (by decide) ⟨_, _, _, rfl⟩ h) ?_)))
      replace h := rest h
    exact trivial
  exact (View.canon_apply_of_pieces _ _ hP.mem _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 _)).trans (table_at (fun (r : Fin 1024) (n : Fin 1536) => qkv W (fun k => x0 (ix3 0 r k)) n) ⟨4 * r.val + k.val, by omega⟩ n)

/-- The rows stored in classes of sixteen. -/
theorem out_sixteen (W : Params) (hg : ∀ n, x1 (ix2 0 n) = W.g n) (hw : ∀ k n, x2 (ix2 k n) = W.win k n) (k : Fin 16) (r : Fin 64) (n : Fin 1536) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 (ix4 0 k r n)
    = qkv W (fun j => x0 (ix3 0 ⟨16 * r.val + k.val, by omega⟩ j)) n := by
  unfold out0_B_12
  rw [View.read_writes_junk_apply_eq_canon]
  have hP : View.PiecesOf (rows16 (rowsB W x0)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.1 := by
    have h := classes c arg2 harg2 arg3 harg3 arg4 harg4 arg21 x0 x1 x2 W hg hw
    iterate 12
      refine more (piece16 3 3 (by decide) ⟨_, _, _, _, _, _, _, _, _, rfl⟩ h) (more (piece16 3 2 (by decide) ⟨_, _, _, _, _, _, _, _, _, rfl⟩ h)
        (more (piece16 3 1 (by decide) ⟨_, _, _, _, _, _, _, _, _, rfl⟩ h) (more (piece16 3 0 (by decide) ⟨_, _, _, _, _, _, _, _, _, rfl⟩ h) ?_)))
      refine more (piece16 2 3 (by decide) ⟨_, _, _, _, _, _, _, _, _, rfl⟩ h) (more (piece16 2 2 (by decide) ⟨_, _, _, _, _, _, _, _, _, rfl⟩ h)
        (more (piece16 2 1 (by decide) ⟨_, _, _, _, _, _, _, _, _, rfl⟩ h) (more (piece16 2 0 (by decide) ⟨_, _, _, _, _, _, _, _, _, rfl⟩ h) ?_)))
      refine more (piece16 1 3 (by decide) ⟨_, _, _, _, _, _, _, _, _, rfl⟩ h) (more (piece16 1 2 (by decide) ⟨_, _, _, _, _, _, _, _, _, rfl⟩ h)
        (more (piece16 1 1 (by decide) ⟨_, _, _, _, _, _, _, _, _, rfl⟩ h) (more (piece16 1 0 (by decide) ⟨_, _, _, _, _, _, _, _, _, rfl⟩ h) ?_)))
      refine more (piece16 0 3 (by decide) ⟨_, _, _, _, _, _, _, _, _, rfl⟩ h) (more (piece16 0 2 (by decide) ⟨_, _, _, _, _, _, _, _, _, rfl⟩ h)
        (more (piece16 0 1 (by decide) ⟨_, _, _, _, _, _, _, _, _, rfl⟩ h) (more (piece16 0 0 (by decide) ⟨_, _, _, _, _, _, _, _, _, rfl⟩ h) ?_)))
      replace h := rest (rest (rest (rest h)))
    exact trivial
  exact (View.canon_apply_of_pieces _ _ hP.mem _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 _)).trans (table_at (fun (r : Fin 1024) (n : Fin 1536) => qkv W (fun k => x0 (ix3 0 r k)) n) ⟨16 * r.val + k.val, by omega⟩ n)

/-- The tokens. -/
theorem tok_eq (W : Params) (hg : ∀ n, x1 (ix2 0 n) = W.g n) (hw : ∀ k n, x2 (ix2 k n) = W.win k n) (r : Fin 1024) (n : Fin 512) : kernelRun0_B.sl.r_4 (F := Ideal) c arg2 harg2 arg3 harg3 arg4 harg4 x0 x1 x2 (ix2 r n) = tokB W x0 r n :=
  tok_rows hg hw (normed c arg2 harg2 arg3 harg3 x0 x1) r n

/-- The pooled channels stored. -/
theorem out_pool (W : Params) (hg : ∀ n, x1 (ix2 0 n) = W.g n) (hw : ∀ k n, x2 (ix2 k n) = W.win k n) (hpw : ∀ g k n, x3 (ix3 g k n) = W.pw g k n) (hps : ∀ n, x4 (ix2 0 n) = W.ps n)
    (r : Fin 1024) (n : Fin 512) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 (ix3 0 r n)
    = poolB W (fun i n => xs2 (ix2 i n)) (tokB W x0) (i 1).val r n := by
  unfold out0_B_13
  rw [View.read_writes_junk_apply_eq_canon]
  have hU := tok_eq c arg2 harg2 arg3 harg3 arg4 harg4 x0 x1 x2 W hg hw
  have hi : (i 1).val < 4 := (i 1).isLt
  have hP : View.PiecesOf (rows 512 (table (poolB W (fun i n => xs2 (ix2 i n)) (tokB W x0) (i 1).val)))
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.2.1 :=
    ⟨row_piece (by decide) (pool_rows hpw hps 3 rfl fun r k => delta3 hU (fun j n => congrFun (whole harg23 xs2 (by decide)) (ix2 j n)) hi r k),
      row_piece (by decide) (pool_rows hpw hps 2 rfl fun r k => delta2 hU (fun j n => congrFun (whole harg23 xs2 (by decide)) (ix2 j n)) hi r k),
      row_piece (by decide) (pool_rows hpw hps 1 rfl fun r k => delta1 hU (fun j n => congrFun (whole harg23 xs2 (by decide)) (ix2 j n)) hi r k),
      row_piece (by decide) (pool_rows hpw hps 0 rfl fun r k => delta0 hU (fun j n => congrFun (whole harg23 xs2 (by decide)) (ix2 j n)) hi r k), trivial⟩
  exact (View.canon_apply_of_pieces _ _ hP.mem _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 _)).trans (table_at _ r n)

/-- The output projection stored is the block loaded. -/
theorem out_copy14 : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 = x5 := by
  unfold out0_B_14
  funext y
  rw [View.read_writes_junk_apply_eq_canon]
  exact View.canon_apply_of_pieces x5 _ (View.PiecesOf.mem (L := (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.2.2.1)
    ⟨fun z => (congrFun (whole harg7 x5 (by decide)) z).trans (copied x5 (h := inb_S32x1024_S32x1024_0_0) (by decide) z), trivial⟩) y (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 y)

/-- The up projection stored is the block loaded. -/
theorem out_copy15 : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 = x6 := by
  unfold out0_B_15
  funext y
  rw [View.read_writes_junk_apply_eq_canon]
  exact View.canon_apply_of_pieces x6 _ (View.PiecesOf.mem (L := (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.2.2.2.1)
    ⟨fun z => (congrFun (whole harg8 x6 (by decide)) z).trans (copied x6 (h := inb_S32x5632_S32x5632_0_0) (by decide) z), trivial⟩) y (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 y)

/-- The down projection stored is the block loaded. -/
theorem out_copy16 : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 = x7 := by
  unfold out0_B_16
  funext y
  rw [View.read_writes_junk_apply_eq_canon]
  exact View.canon_apply_of_pieces x7 _ (View.PiecesOf.mem (L := (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.2.2.2.2.1)
    ⟨fun z => (congrFun (whole harg9 x7 (by decide)) z).trans (copied x7 (h := inb_S128x1024_S128x1024_0_0) (by decide) z), trivial⟩) y (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 y)

/-- The gate matrix stored is the block loaded. -/
theorem out_copy17 : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 = x8 := by
  unfold out0_B_17
  funext y
  rw [View.read_writes_junk_apply_eq_canon]
  exact View.canon_apply_of_pieces x8 _ (View.PiecesOf.mem (L := (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.2.2.2.2.2.1)
    ⟨fun z => (congrFun (whole harg10 x8 (by decide)) z).trans (copied x8 (h := inb_S32x1024_S32x1024_0_0) (by decide) z), trivial⟩) y (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 y)

/-- The embedding matrix stored is the block loaded. -/
theorem out_copy18 : out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 = x9 := by
  unfold out0_B_18
  funext y
  rw [View.read_writes_junk_apply_eq_canon]
  exact View.canon_apply_of_pieces x9 _ (View.PiecesOf.mem (L := (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2).2.2.2.2.2.2.2.2.1)
    ⟨fun z => (congrFun (whole harg11 x9 (by decide)) z).trans (copied x9 (h := inb_S16x1024_S16x1024_0_0) (by decide) z), trivial⟩) y (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 y)

/-- The history left: the tokens of the last sixteen rows. -/
theorem left (W : Params) (hg : ∀ n, x1 (ix2 0 n) = W.g n) (hw : ∀ k n, x2 (ix2 k n) = W.win k n) (j : Fin 16) (n : Fin 512) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs2 (ix2 j n)
    = tokB W x0 ⟨1008 + j.val, by omega⟩ n := by
  unfold sout0_B_2
  rw [View.read_writes_junk_apply_eq_canon]
  refine (last_at (L := []) j n).trans ?_
  refine (kept_at _ _ _ _ j n).trans ?_
  exact tok_eq c arg2 harg2 arg3 harg3 arg4 harg4 x0 x1 x2 W hg hw _ n

end Cert.ProjectionIdeal.CaseB

end
-- ==== Proof.MixLayer.lean ====
/-
  The results of the first call: every point writes its 1024 rows, in natural order and by residue class, and its pooled tokens, the history a
  point finds being the tokens of the sixteen rows before its block; and it copies its share of each matrix.
-/
module

public import proofs.«01_k».proof.Proof.MixWindows
public import proofs.«01_k».proof.Proof.MixA
public import proofs.«01_k».proof.Proof.MixB

@[expose] public section

noncomputable section

namespace Cert.ProjectionIdeal.Layer

open Idealize.ShloMosaic Idealize.ShloMosaic.TcCoe Idealize.SL.Sem
open Cert.ProjectionIdeal Cert.ProjectionIdeal.Gen Cert.Ffn Cert.Mix Cert.ProjectionIdeal.Block Cert.ProjectionIdeal.Pay

variable (m : (ℓ : Loc nD τ sig) → Buf (Elt Ideal) ℓ) (c : Dev nD) (t : Fin cfg0.N)

/-- The tokens. -/
def u (b : Fin 8) (s : Fin 4096) (n : Fin 512) : EReal := tok (W m c) (xr m c b s) n

/-- A point's rows are those at its positions, -/
theorem row (R : Fin 1024) : (fun k => (iblk m c 0 t : Vec Ideal S1x1024x1024 .f32) (ix3 0 R k)) = xr m c (bat t) (pos t R) :=
  funext fun k => x_at m c t R k

/-- and so are its tokens. -/
theorem tokens (R : Fin 1024) (n : Fin 512) : tokB (W m c) (iblk m c 0 t) R n = u m c (bat t) (pos t R) n :=
  congrArg (fun x => tok (W m c) x n) (row m c t R)

/-- What a point leaves in the history buffer. -/
theorem history (j : Fin 16) (n : Fin 512) :
    (outsAt0 m c t.val t.isLt).2.2.2.2.2.2.2.2.2 (ix2 j n) = u m c (bat t) (pos t ⟨1008 + j.val, by omega⟩) n := by
  rw [← tokens]
  by_cases h : t.val % 4 = 0
  · rw [outsAt0_A m c t h]
    dsimp only
    exact CaseA.left _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) j n
  · rw [outsAt0_B m c t h]
    dsimp only
    exact CaseB.left _ _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) j n

/-- In the first block of a sequence nothing precedes the block's own rows. -/
theorem ext_first (h : t.val % 4 = 0) (k : ℕ) (hk : k ≤ 16) (R : Fin 1024) (n : Fin 512) :
    ext (fun _ _ => 0) (tokB (W m c) (iblk m c 0 t)) n (16 + R.val - k) = past (u m c (bat t)) k (pos t R) n := by
  have hp : (pos t R).val = R.val := show 1024 * (t.val % 4) + R.val = R.val by omega
  unfold ext past
  by_cases hR : k ≤ R.val
  · rw [dif_neg (by omega), dif_pos (by omega), if_pos (by omega), tokens]
    exact congrArg (fun s => u m c (bat t) s n) (Fin.ext (show 1024 * (t.val % 4) + (16 + R.val - k - 16) = 1024 * (t.val % 4) + R.val - k by omega))
  · rw [dif_pos (by omega), if_neg (by omega)]

/-- In a later block the rows before it are the last of the point before. -/
theorem ext_next (h : ¬t.val % 4 = 0) (k : ℕ) (hk : k ≤ 16) (R : Fin 1024) (n : Fin 512) :
    ext (fun q n => (outsAt0 m c (t.val - 1) (Nat.lt_of_le_of_lt (Nat.sub_le _ _) t.isLt)).2.2.2.2.2.2.2.2.2 (ix2 q n))
      (tokB (W m c) (iblk m c 0 t)) n (16 + R.val - k) = past (u m c (bat t)) k (pos t R) n := by
  have hp : (pos t R).val = 1024 * (t.val % 4) + R.val := rfl
  unfold ext past
  rw [if_pos (by omega)]
  by_cases hR : k ≤ R.val
  · rw [dif_neg (by omega), dif_pos (by omega), tokens]
    exact congrArg (fun s => u m c (bat t) s n) (Fin.ext (show 1024 * (t.val % 4) + (16 + R.val - k - 16) = 1024 * (t.val % 4) + R.val - k by omega))
  · rw [dif_pos (by omega)]
    refine (history m c ⟨t.val - 1, Nat.lt_of_le_of_lt (Nat.sub_le _ _) t.isLt⟩ _ n).trans ?_
    have hb : bat ⟨t.val - 1, Nat.lt_of_le_of_lt (Nat.sub_le _ _) t.isLt⟩ = bat t := Fin.ext (show (t.val - 1) / 4 = t.val / 4 by omega)
    rw [hb]
    exact congrArg (fun s => u m c (bat t) s n)
      (Fin.ext (show 1024 * ((t.val - 1) % 4) + (1008 + (16 + R.val - k)) = 1024 * (t.val % 4) + R.val - k by omega))

/-- A pooled channel of a block, its history being the positions before it. -/
theorem pool_eq {car : Fin 16 → Fin 512 → EReal} {q : ℕ} (hq : q = t.val % 4) (R : Fin 1024) (n : Fin 512)
    (hc : ∀ k, k ≤ 16 → ∀ n, ext car (tokB (W m c) (iblk m c 0 t)) n (16 + R.val - k) = past (u m c (bat t)) k (pos t R) n) :
    poolB (W m c) car (tokB (W m c) (iblk m c 0 t)) q R n = pooled (W m c) (u m c (bat t)) (pos t R) n := by
  subst hq
  have hw : ∀ g : Fin 4, width g ≤ 16 := by decide
  refine congrArg (fun a : EReal => a * (W m c).ps n) (Finset.sum_congr rfl fun k _ => congrArg (fun a : EReal => a * (W m c).pw _ k _) ?_)
  refine congrArg₂ (fun a b : EReal => a - b) (congrArg (fun a => Ideal.div a _) (Finset.sum_congr rfl fun j hj => hc j ?_ _)) (tokens m c t R _)
  exact le_trans (Finset.mem_range.1 hj).le (hw _)

/-! The results. -/

/-- The query, key and value rows in natural order, -/
def RES0 : Vec Ideal S8x4096x1536 .bf16 := fun i => qkv (W m c) (xr m c (i 0) (i 1)) (i 2)
/-- in classes of four, -/
def RES1 : Vec Ideal S8x4x1024x1536 .bf16 := fun i =>
  qkv (W m c) (xr m c (i 0) ⟨4 * (i 2).val + (i 1).val, by have : (i 2).val < 1024 := (i 2).isLt; have : (i 1).val < 4 := (i 1).isLt; omega⟩) (i 3)
/-- and in classes of sixteen, -/
def RES2 : Vec Ideal S8x16x256x1536 .bf16 := fun i =>
  qkv (W m c) (xr m c (i 0) ⟨16 * (i 2).val + (i 1).val, by have : (i 2).val < 256 := (i 2).isLt; have : (i 1).val < 16 := (i 1).isLt; omega⟩) (i 3)
/-- and the pooled tokens. -/
def RES3 : Vec Ideal S8x4096x512 .bf16 := fun i => pooled (W m c) (u m c (i 0)) (i 1) (i 2)

/-- What a point leaves of each. -/
theorem stored0 (R : Fin 1024) (n : Fin 1536) : (outsAt0 m c t.val t.isLt).1 (ix3 0 R n) = RES0 m c (ix3 (bat t) (pos t R) n) := by
  show _ = qkv (W m c) (xr m c (bat t) (pos t R)) n
  rw [← row]
  by_cases h : t.val % 4 = 0
  · rw [outsAt0_A m c t h]
    dsimp only
    exact CaseA.out_rows _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) R n
  · rw [outsAt0_B m c t h]
    dsimp only
    exact CaseB.out_rows _ _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) R n

theorem stored1 (k : Fin 4) (r : Fin 256) (n : Fin 1536) :
    (outsAt0 m c t.val t.isLt).2.1 (ix4 0 k r n) = RES1 m c (ix4 (bat t) k ⟨256 * (t.val % 4) + r.val, by omega⟩ n) := by
  have e : RES1 m c (ix4 (bat t) k ⟨256 * (t.val % 4) + r.val, by omega⟩ n) = qkv (W m c) (xr m c (bat t) (pos t ⟨4 * r.val + k.val, by omega⟩)) n :=
    congrArg (fun s => qkv (W m c) (xr m c (bat t) s) n) (Fin.ext (show 4 * (256 * (t.val % 4) + r.val) + k.val = 1024 * (t.val % 4) + (4 * r.val + k.val) by omega))
  rw [e, ← row]
  by_cases h : t.val % 4 = 0
  · rw [outsAt0_A m c t h]
    dsimp only
    exact CaseA.out_four _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) k r n
  · rw [outsAt0_B m c t h]
    dsimp only
    exact CaseB.out_four _ _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) k r n

theorem stored2 (k : Fin 16) (r : Fin 64) (n : Fin 1536) :
    (outsAt0 m c t.val t.isLt).2.2.1 (ix4 0 k r n) = RES2 m c (ix4 (bat t) k ⟨64 * (t.val % 4) + r.val, by omega⟩ n) := by
  have e : RES2 m c (ix4 (bat t) k ⟨64 * (t.val % 4) + r.val, by omega⟩ n) = qkv (W m c) (xr m c (bat t) (pos t ⟨16 * r.val + k.val, by omega⟩)) n :=
    congrArg (fun s => qkv (W m c) (xr m c (bat t) s) n) (Fin.ext (show 16 * (64 * (t.val % 4) + r.val) + k.val = 1024 * (t.val % 4) + (16 * r.val + k.val) by omega))
  rw [e, ← row]
  by_cases h : t.val % 4 = 0
  · rw [outsAt0_A m c t h]
    dsimp only
    exact CaseA.out_sixteen _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) k r n
  · rw [outsAt0_B m c t h]
    dsimp only
    exact CaseB.out_sixteen _ _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) k r n

theorem stored3 (R : Fin 1024) (n : Fin 512) : (outsAt0 m c t.val t.isLt).2.2.2.1 (ix3 0 R n) = RES3 m c (ix3 (bat t) (pos t R) n) := by
  show _ = pooled (W m c) (u m c (bat t)) (pos t R) n
  by_cases h : t.val % 4 = 0
  · rw [outsAt0_A m c t h, ← pool_eq m c t (coord1 t) R n fun k hk n => ext_first m c t h k hk R n]
    dsimp only
    exact CaseA.out_pool _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) (pw_at m c t) (ps_at m c t) R n
  · rw [outsAt0_B m c t h, ← pool_eq m c t (coord1 t) R n fun k hk n => ext_next m c t h k hk R n]
    dsimp only
    exact CaseB.out_pool _ _ _ _ _ _ _ _ _ _ _ _ _ _ _ _ _ _ _ _ _ _ _ _ _ _ _ _ _ _ _ _ _ _ _ _ _ _ _ _ _ _ _ _ _ _ _ _ _ _ _ _ _ _ _ _ _ _
      (W m c) (g_at m c t) (win_at m c t) (pw_at m c t) (ps_at m c t) R n

/-- What a point leaves of the matrices it copies is what it was given. -/
theorem copied14 : (outsAt0 m c t.val t.isLt).2.2.2.2.1 = (iblk m c 5 t : Vec Ideal S32x1024 .f32) := by
  by_cases h : t.val % 4 = 0
  · rw [outsAt0_A m c t h]
    dsimp only
    exact CaseA.out_copy14 _ _ _ _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact CaseB.out_copy14 _ _ _ _ _ _ _ _ _ _ _ _ _ _ _ _ _ _ _ _ _ _ _ _ _ _ _ _ _ _ _ _ _ _ _ _ _ _ _ _ _ _ _ _ _ _ _ _ _ _ _ _ _ _ _ _ _ _

theorem copied15 : (outsAt0 m c t.val t.isLt).2.2.2.2.2.1 = (iblk m c 6 t : Vec Ideal S32x5632 .f32) := by
  by_cases h : t.val % 4 = 0
  · rw [outsAt0_A m c t h]
    dsimp only
    exact CaseA.out_copy15 _ _ _ _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact CaseB.out_copy15 _ _ _ _ _ _ _ _ _ _ _ _ _ _ _ _ _ _ _ _ _ _ _ _ _ _ _ _ _ _ _ _ _ _ _ _ _ _ _ _ _ _ _ _ _ _ _ _ _ _ _ _ _ _ _ _ _ _

theorem copied16 : (outsAt0 m c t.val t.isLt).2.2.2.2.2.2.1 = (iblk m c 7 t : Vec Ideal S128x1024 .f32) := by
  by_cases h : t.val % 4 = 0
  · rw [outsAt0_A m c t h]
    dsimp only
    exact CaseA.out_copy16 _ _ _ _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact CaseB.out_copy16 _ _ _ _ _ _ _ _ _ _ _ _ _ _ _ _ _ _ _ _ _ _ _ _ _ _ _ _ _ _ _ _ _ _ _ _ _ _ _ _ _ _ _ _ _ _ _ _ _ _ _ _ _ _ _ _ _ _

theorem copied17 : (outsAt0 m c t.val t.isLt).2.2.2.2.2.2.2.1 = (iblk m c 8 t : Vec Ideal S32x1024 .f32) := by
  by_cases h : t.val % 4 = 0
  · rw [outsAt0_A m c t h]
    dsimp only
    exact CaseA.out_copy17 _ _ _ _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact CaseB.out_copy17 _ _ _ _ _ _ _ _ _ _ _ _ _ _ _ _ _ _ _ _ _ _ _ _ _ _ _ _ _ _ _ _ _ _ _ _ _ _ _ _ _ _ _ _ _ _ _ _ _ _ _ _ _ _ _ _ _ _

theorem copied18 : (outsAt0 m c t.val t.isLt).2.2.2.2.2.2.2.2.1 = (iblk m c 9 t : Vec Ideal S16x1024 .f32) := by
  by_cases h : t.val % 4 = 0
  · rw [outsAt0_A m c t h]
    dsimp only
    exact CaseA.out_copy18 _ _ _ _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact CaseB.out_copy18 _ _ _ _ _ _ _ _ _ _ _ _ _ _ _ _ _ _ _ _ _ _ _ _ _ _ _ _ _ _ _ _ _ _ _ _ _ _ _ _ _ _ _ _ _ _ _ _ _ _ _ _ _ _ _ _ _ _

/-! The arrays after the run. -/

theorem final0 : (dats m 0 c).arrAt 10 cfg0.N = RES0 m c := by
  refine (dats m 0 c).arrAt_eq_of_covers 10 (RES0 m c) (by decide +kernel) fun t hf y => ?_
  blk_simp
  rw [after0_10]
  have h0 : (y 0).val < 1 := (y 0).isLt
  have hy : y = (ix3 0 (y 1) (y 2) : S1x1024x1536.Idx) := by
    funext a
    match a with
    | ⟨0, _⟩ => exact Fin.ext (show (y 0).val = 0 by omega)
    | ⟨1, _⟩ => rfl
    | ⟨2, _⟩ => rfl
  refine ((congrArg (outsAt0 m c t.val t.isLt).1 hy).trans (stored0 m c t (y 1) (y 2))).trans (congrArg (RES0 m c) ?_)
  blk_ext [idx t, bat, pos]

theorem final1 : (dats m 0 c).arrAt 11 cfg0.N = RES1 m c := by
  refine (dats m 0 c).arrAt_eq_of_covers 11 (RES1 m c) (by decide +kernel) fun t hf y => ?_
  blk_simp
  rw [after0_11]
  have h0 : (y 0).val < 1 := (y 0).isLt
  have hy : y = (ix4 0 (y 1) (y 2) (y 3) : S1x4x256x1536.Idx) := by
    funext a
    match a with
    | ⟨0, _⟩ => exact Fin.ext (show (y 0).val = 0 by omega)
    | ⟨1, _⟩ => rfl
    | ⟨2, _⟩ => rfl
    | ⟨3, _⟩ => rfl
  refine ((congrArg (outsAt0 m c t.val t.isLt).2.1 hy).trans (stored1 m c t (y 1) (y 2) (y 3))).trans (congrArg (RES1 m c) ?_)
  blk_ext [idx t, bat, pos]

theorem final2 : (dats m 0 c).arrAt 12 cfg0.N = RES2 m c := by
  refine (dats m 0 c).arrAt_eq_of_covers 12 (RES2 m c) (by decide +kernel) fun t hf y => ?_
  blk_simp
  rw [after0_12]
  have h0 : (y 0).val < 1 := (y 0).isLt
  have hy : y = (ix4 0 (y 1) (y 2) (y 3) : S1x16x64x1536.Idx) := by
    funext a
    match a with
    | ⟨0, _⟩ => exact Fin.ext (show (y 0).val = 0 by omega)
    | ⟨1, _⟩ => rfl
    | ⟨2, _⟩ => rfl
    | ⟨3, _⟩ => rfl
  refine ((congrArg (outsAt0 m c t.val t.isLt).2.2.1 hy).trans (stored2 m c t (y 1) (y 2) (y 3))).trans (congrArg (RES2 m c) ?_)
  blk_ext [idx t, bat, pos]

theorem final3 : (dats m 0 c).arrAt 13 cfg0.N = RES3 m c := by
  refine (dats m 0 c).arrAt_eq_of_covers 13 (RES3 m c) (by decide +kernel) fun t hf y => ?_
  blk_simp
  rw [after0_13]
  have h0 : (y 0).val < 1 := (y 0).isLt
  have hy : y = (ix3 0 (y 1) (y 2) : S1x1024x512.Idx) := by
    funext a
    match a with
    | ⟨0, _⟩ => exact Fin.ext (show (y 0).val = 0 by omega)
    | ⟨1, _⟩ => rfl
    | ⟨2, _⟩ => rfl
  refine ((congrArg (outsAt0 m c t.val t.isLt).2.2.2.1 hy).trans (stored3 m c t (y 1) (y 2))).trans (congrArg (RES3 m c) ?_)
  blk_ext [idx t, bat, pos]

theorem final4 : (dats m 0 c).arrAt 14 cfg0.N = (m ((c : Thread nD τ).loc main_arg5) : Vec Ideal _ .f32) := by
  refine (dats m 0 c).arrAt_eq_of_covers 14 (m ((c : Thread nD τ).loc main_arg5)) (by decide +kernel) fun t hf y => ?_
  blk_simp
  rw [after0_14]
  refine (congrFun (copied14 m c t) y).trans ?_
  blk_ext [iblk, V_main_arg5, idxC t]

theorem final5 : (dats m 0 c).arrAt 15 cfg0.N = (m ((c : Thread nD τ).loc main_arg6) : Vec Ideal _ .f32) := by
  refine (dats m 0 c).arrAt_eq_of_covers 15 (m ((c : Thread nD τ).loc main_arg6)) (by decide +kernel) fun t hf y => ?_
  blk_simp
  rw [after0_15]
  refine (congrFun (copied15 m c t) y).trans ?_
  blk_ext [iblk, V_main_arg6, idxC t]

theorem final6 : (dats m 0 c).arrAt 16 cfg0.N = (m ((c : Thread nD τ).loc main_arg7) : Vec Ideal _ .f32) := by
  refine (dats m 0 c).arrAt_eq_of_covers 16 (m ((c : Thread nD τ).loc main_arg7)) (by decide +kernel) fun t hf y => ?_
  blk_simp
  rw [after0_16]
  refine (congrFun (copied16 m c t) y).trans ?_
  blk_ext [iblk, V_main_arg7, idxC t]

theorem final7 : (dats m 0 c).arrAt 17 cfg0.N = (m ((c : Thread nD τ).loc main_arg8) : Vec Ideal _ .f32) := by
  refine (dats m 0 c).arrAt_eq_of_covers 17 (m ((c : Thread nD τ).loc main_arg8)) (by decide +kernel) fun t hf y => ?_
  blk_simp
  rw [after0_17]
  refine (congrFun (copied17 m c t) y).trans ?_
  blk_ext [iblk, V_main_arg8, idxC t]

theorem final8 : (dats m 0 c).arrAt 18 cfg0.N = (m ((c : Thread nD τ).loc main_arg9) : Vec Ideal _ .f32) := by
  refine (dats m 0 c).arrAt_eq_of_covers 18 (m ((c : Thread nD τ).loc main_arg9)) (by decide +kernel) fun t hf y => ?_
  blk_simp
  rw [after0_18]
  refine (congrFun (copied18 m c t) y).trans ?_
  blk_ext [iblk, V_main_arg9, idxC t]

end Cert.ProjectionIdeal.Layer

end
-- ==== Proof.lean ====
/- The certificate's claims: the frames from each program's run, and each kernel's results beside its reference's, both read at a position and a
   channel. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.RefRow
public import proofs.«01_k».proof.Proof.Layer
public import proofs.«01_k».proof.Proof.Gen.Projection.Frame
public import proofs.«01_k».proof.Proof.Gen.ProjectionIdeal.Value
public import proofs.«01_k».proof.Proof.Gen.MixingIdeal.Run
public import proofs.«01_k».proof.Proof.MixRow
public import proofs.«01_k».proof.Proof.MixLayer
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the kernel's, the arguments being the same. -/
theorem same (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : V (Proc.devRef .tc Cert.ReferenceIdeal.main_arg0) = m (c.tc.loc Cert.KernelIdeal.main_arg0))
    (h1 : V (Proc.devRef .tc Cert.ReferenceIdeal.main_arg1) = m (c.tc.loc Cert.KernelIdeal.main_arg1))
    (h2 : V (Proc.devRef .tc Cert.ReferenceIdeal.main_arg2) = m (c.tc.loc Cert.KernelIdeal.main_arg2))
    (h3 : V (Proc.devRef .tc Cert.ReferenceIdeal.main_arg3) = m (c.tc.loc Cert.KernelIdeal.main_arg3))
    (h4 : V (Proc.devRef .tc Cert.ReferenceIdeal.main_arg4) = m (c.tc.loc Cert.KernelIdeal.main_arg4))
    (h5 : V (Proc.devRef .tc Cert.ReferenceIdeal.main_arg5) = m (c.tc.loc Cert.KernelIdeal.main_arg5))
    (h6 : V (Proc.devRef .tc Cert.ReferenceIdeal.main_arg6) = m (c.tc.loc Cert.KernelIdeal.main_arg6))
    (h7 : V (Proc.devRef .tc Cert.ReferenceIdeal.main_arg7) = m (c.tc.loc Cert.KernelIdeal.main_arg7))
    (h8 : V (Proc.devRef .tc Cert.ReferenceIdeal.main_arg8) = m (c.tc.loc Cert.KernelIdeal.main_arg8))
    (h9 : V (Proc.devRef .tc Cert.ReferenceIdeal.main_arg9) = m (c.tc.loc Cert.KernelIdeal.main_arg9))
    (h10 : V (Proc.devRef .tc Cert.ReferenceIdeal.main_arg10) = m (c.tc.loc Cert.KernelIdeal.main_arg10))
    (h11 : V (Proc.devRef .tc Cert.ReferenceIdeal.main_arg11) = m (c.tc.loc Cert.KernelIdeal.main_arg11))
    (h12 : V (Proc.devRef .tc Cert.ReferenceIdeal.main_arg12) = m (c.tc.loc Cert.KernelIdeal.main_arg12))
    (h13 : V (Proc.devRef .tc Cert.ReferenceIdeal.main_arg13) = m (c.tc.loc Cert.KernelIdeal.main_arg13)) :
    Cert.ReferenceIdeal.Row.REF V = Cert.KernelIdeal.Layer.RES m c := by
  have hW : Cert.ReferenceIdeal.Row.W V = Cert.KernelIdeal.Layer.W m c := by
    unfold Cert.ReferenceIdeal.Row.W Cert.KernelIdeal.Layer.W
    rw [h4, h5, h6, h7, h8, h9, h10, h11, h12, h13]
  have hh : Cert.ReferenceIdeal.Row.h1 V = Cert.KernelIdeal.Layer.h1 m c := by
    funext b s
    unfold Cert.ReferenceIdeal.Row.h1 Cert.KernelIdeal.Layer.h1 Cert.ReferenceIdeal.Row.xr Cert.ReferenceIdeal.Row.ar Cert.ReferenceIdeal.Row.pr
    rw [hW, h0, h1, h2]
  have he : ∀ b s, Cert.ReferenceIdeal.Row.er V b s = fun k => m (c.tc.loc Cert.KernelIdeal.main_arg3) (ix3 b s k) := fun b s => by
    funext k
    unfold Cert.ReferenceIdeal.Row.er
    rw [h3]
  funext i
  have hi : i = (ix3 (i 0) (i 1) (i 2) : Cert.ReferenceIdeal.S8x4096x1024.Idx) :=
    funext fun a => match a with | ⟨0, _⟩ => rfl | ⟨1, _⟩ => rfl | ⟨2, _⟩ => rfl
  refine (congrArg _ hi).trans ((Cert.ReferenceIdeal.Row.REF_at V (i 0) (i 1) (i 2)).trans ?_)
  rw [hW, hh]
  exact congrArg (fun e => Cert.Ffn.outRow _ _ _ _ e _) (he (i 0) (i 1))

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Layer.final]
  obtain ⟨h0, h1, h2, h3, h4, h5, h6, h7, h8, h9, h10, h11, h12, h13⟩ := hagree c
  exact same m c (StableHlo.launchContents m' c) h0 h1 h2 h3 h4 h5 h6 h7 h8 h9 h10 h11 h12 h13

theorem quiescent_MixingIdeal : quiescent_MixingIdeal := fun m ρ _ =>
  (θ_run Cert.MixingIdeal.defs _ _).mono (fun r h => ⟨fun c => (h c).2.2.2.2.2.2.2.2.2, sem_eq_zero_of_no_sems (by decide) r.2⟩)
    (Cert.MixingIdeal.Value.run (F := Ideal) m ρ)

section Mix

open Cert.Mix

variable (m : (ℓ : Loc Cert.ProjectionIdeal.nD Cert.ProjectionIdeal.τ Cert.ProjectionIdeal.sig) → Buf (Elt Ideal) ℓ) (c : Dev Cert.ProjectionIdeal.nD)
  (V : Valuation Cert.MixingIdeal.τ Cert.MixingIdeal.sig (Elt Ideal))

/-- The first call's arguments that are computed with are the same on both sides. -/
structure Agree : Prop where
  h0 : V (Proc.devRef .tc Cert.MixingIdeal.main_arg0) = m (c.tc.loc Cert.ProjectionIdeal.main_arg0)
  h1 : V (Proc.devRef .tc Cert.MixingIdeal.main_arg1) = m (c.tc.loc Cert.ProjectionIdeal.main_arg1)
  h2 : V (Proc.devRef .tc Cert.MixingIdeal.main_arg2) = m (c.tc.loc Cert.ProjectionIdeal.main_arg2)
  h3 : V (Proc.devRef .tc Cert.MixingIdeal.main_arg3) = m (c.tc.loc Cert.ProjectionIdeal.main_arg3)
  h4 : V (Proc.devRef .tc Cert.MixingIdeal.main_arg4) = m (c.tc.loc Cert.ProjectionIdeal.main_arg4)

variable {m c V}

/-- Then so are the parameters, -/
theorem Agree.params (h : Agree m c V) : Cert.MixingIdeal.Row.W V = Cert.ProjectionIdeal.Layer.W m c := by
  unfold Cert.MixingIdeal.Row.W Cert.ProjectionIdeal.Layer.W
  rw [h.h1, h.h2, h.h3, h.h4]

/-- the rows, -/
theorem Agree.rows (h : Agree m c V) : Cert.MixingIdeal.Row.xr V = Cert.ProjectionIdeal.Layer.xr m c := by
  funext b s k
  unfold Cert.MixingIdeal.Row.xr Cert.ProjectionIdeal.Layer.xr
  rw [h.h0]

/-- and the tokens. -/
theorem Agree.tokens (h : Agree m c V) : Cert.MixingIdeal.Row.u V = Cert.ProjectionIdeal.Layer.u m c := by
  funext b s n
  unfold Cert.MixingIdeal.Row.u Cert.ProjectionIdeal.Layer.u
  rw [h.params, h.rows]

/-- An array of three axes that has the entries of another is that array, -/
theorem ext3 {a b d : ℕ} {X Y : (⟨3, ![a, b, d]⟩ : Shape).Idx → EReal} (h : ∀ i j k, X (ix3 i j k) = Y (ix3 i j k)) : X = Y := by
  funext i
  have hi : i = ix3 (i 0) (i 1) (i 2) := funext fun a => match a with | ⟨0, _⟩ => rfl | ⟨1, _⟩ => rfl | ⟨2, _⟩ => rfl
  rw [hi]
  exact h _ _ _

/-- and so is one of four. -/
theorem ext4 {a b d e : ℕ} {X Y : (⟨4, ![a, b, d, e]⟩ : Shape).Idx → EReal} (h : ∀ i j k l, X (ix4 i j k l) = Y (ix4 i j k l)) : X = Y := by
  funext i
  have hi : i = ix4 (i 0) (i 1) (i 2) (i 3) := funext fun a => match a with | ⟨0, _⟩ => rfl | ⟨1, _⟩ => rfl | ⟨2, _⟩ => rfl | ⟨3, _⟩ => rfl
  rw [hi]
  exact h _ _ _ _

end Mix

theorem algebraic_ProjectionIdeal_MixingIdeal : algebraic_ProjectionIdeal_MixingIdeal := by
  intro m ρ m' ρ' _ hagree
  refine ⟨_, _, _, _, _, _, _, _, _, Cert.ProjectionIdeal.Value.run_blocks (F := Ideal) m ρ, ?_⟩
  refine (θ_run Cert.MixingIdeal.defs _ _).mono (fun _ h c => ?_) (Cert.MixingIdeal.Value.run (F := Ideal) m' ρ')
  obtain ⟨h0, h1, h2, h3, h4, h5, h6, h7, h8, h9⟩ := hagree c
  have e : Agree m c (StableHlo.launchContents m' c) := ⟨h0, h1, h2, h3, h4⟩
  obtain ⟨r0, r1, r2, r3, r4, r5, r6, r7, r8, kept⟩ := h c
  refine ⟨r0.trans ?_, r1.trans ?_, r2.trans ?_, r3.trans ?_, r4.trans ?_, r5.trans ?_, r6.trans ?_, r7.trans ?_, r8.trans ?_, kept⟩
  · rw [Cert.ProjectionIdeal.Layer.final0]
    refine ext3 fun b s n => (Cert.MixingIdeal.Row.r0_at _ b s n).trans ?_
    rw [e.params, e.rows]
    rfl
  · rw [Cert.ProjectionIdeal.Layer.final1]
    refine ext4 fun b k r n => (Cert.MixingIdeal.Row.r1_at _ b k r n).trans ?_
    rw [e.params, e.rows]
    rfl
  · rw [Cert.ProjectionIdeal.Layer.final2]
    refine ext4 fun b k r n => (Cert.MixingIdeal.Row.r2_at _ b k r n).trans ?_
    rw [e.params, e.rows]
    rfl
  · rw [Cert.ProjectionIdeal.Layer.final3]
    refine ext3 fun b s n => (Cert.MixingIdeal.Row.r3_at _ b s n).trans ?_
    rw [e.params, e.tokens]
    rfl
  · rw [Cert.ProjectionIdeal.Layer.final4]
    exact funext fun i => (Cert.MixingIdeal.Row.truncf_at _ _ i).trans (congrFun h5 i)
  · rw [Cert.ProjectionIdeal.Layer.final5]
    exact funext fun i => (Cert.MixingIdeal.Row.truncf_at _ _ i).trans (congrFun h6 i)
  · rw [Cert.ProjectionIdeal.Layer.final6]
    exact funext fun i => (Cert.MixingIdeal.Row.truncf_at _ _ i).trans (congrFun h7 i)
  · rw [Cert.ProjectionIdeal.Layer.final7]
    exact funext fun i => (Cert.MixingIdeal.Row.truncf_at _ _ i).trans (congrFun h8 i)
  · rw [Cert.ProjectionIdeal.Layer.final8]
    exact funext fun i => (Cert.MixingIdeal.Row.truncf_at _ _ i).trans (congrFun h9 i)

theorem claim : Cert.Claim := ⟨Cert.Kernel.Gen.facts, Cert.KernelIdeal.Gen.facts, Cert.ReferenceIdeal.Gen.facts,
  Cert.Projection.Gen.facts, Cert.ProjectionIdeal.Gen.facts, Cert.MixingIdeal.Gen.facts,
  fun m ρ _ => Cert.Kernel.Gen.frame m ρ, fun m ρ _ => Cert.KernelIdeal.Gen.frame m ρ, quiescent_ReferenceIdeal,
  fun m ρ _ => Cert.Projection.Gen.frame m ρ, fun m ρ _ => Cert.ProjectionIdeal.Gen.frame m ρ, quiescent_MixingIdeal,
  (trivial : preserves_Kernel_KernelIdeal), algebraic_KernelIdeal_ReferenceIdeal,
  (trivial : preserves_Projection_ProjectionIdeal), algebraic_ProjectionIdeal_MixingIdeal⟩

end Cert.Proof

end
